-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1024x2154 : Shape := ⟨2, ![1024, 2154]⟩
abbrev S256x16 : Shape := ⟨2, ![256, 16]⟩
abbrev S256 : Shape := ⟨1, ![256]⟩
abbrev S_ : Shape := ⟨0, ![]⟩

class Facts : Prop where
  bcast_S_S1024x2154 : S_.BroadcastsInDim S1024x2154 (![] : Fin 0 → Fin S1024x2154.rank)
  reducesTo_S1024x2154_S_d0_1 : S1024x2154.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_arg9 : FVec F S256x16 .f32) (main_arg10 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x16 .f32 := Host.absf main_arg9
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S1024x2154 .f32) (main_arg1 : FVec F S256x16 .f32) (main_arg2 : FVec F S256 .f32) (main_arg3 : FVec F S256 .f32) (main_arg4 : FVec F S256 .f32) (main_arg5 : FVec F S256x16 .f32) (main_arg6 : FVec F S256 .f32) (main_arg7 : FVec F S256 .f32) (main_arg8 : FVec F S256 .f32) (main_arg9 : FVec F S256x16 .f32) (main_arg10 : FVec F S256 .f32) (main_arg11 : FVec F S256 .f32) (main_arg12 : FVec F S256 .f32) : IVec S_ 1 :=
  let main_v0 : FVec F S1024x2154 .f32 := Host.absf main_arg0
  let main_cst : FVec F S_ .f32 := constant S_ .f32 0x7F800000#32
  let main_v1 : FVec F S1024x2154 .f32 := broadcastInDim S1024x2154 ![] bcast_S_S1024x2154 main_cst
  let main_v2 : IVec S1024x2154 1 := cmpf .olt main_v0 main_v1
  let main_c : IVec S_ 1 := constantI S_ 1 1#1
  let main_v3 : IVec S_ 1 := (fun x v => Host.reduce IntOp.andi x v reducesTo_S1024x2154_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg5
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg6 main_arg9 main_arg10 main_v13 main_v16
-- ==== Kernel.lean ====
abbrev S1024x2154 : Shape := ⟨2, ![1024, 2154]⟩
abbrev S256x16 : Shape := ⟨2, ![256, 16]⟩
abbrev S256 : Shape := ⟨1, ![256]⟩
abbrev S24x16 : Shape := ⟨2, ![24, 16]⟩
abbrev S16x256 : Shape := ⟨2, ![16, 256]⟩
abbrev S_ : Shape := ⟨0, ![]⟩
abbrev S24x256 : Shape := ⟨2, ![24, 256]⟩
abbrev S24x768 : Shape := ⟨2, ![24, 768]⟩
abbrev S768 : Shape := ⟨1, ![768]⟩
abbrev S1x768 : Shape := ⟨2, ![1, 768]⟩
abbrev S135x16x135 : Shape := ⟨3, ![135, 16, 135]⟩
abbrev S2160x135 : Shape := ⟨2, ![2160, 135]⟩
abbrev S135x1024x768 : Shape := ⟨3, ![135, 1024, 768]⟩
abbrev S1024x135 : Shape := ⟨2, ![1024, 135]⟩
abbrev S16x2154 : Shape := ⟨2, ![16, 2154]⟩
abbrev S135x16x768 : Shape := ⟨3, ![135, 16, 768]⟩
abbrev S16x135 : Shape := ⟨2, ![16, 135]⟩
abbrev S16x2151 : Shape := ⟨2, ![16, 2151]⟩
abbrev S16x2131 : Shape := ⟨2, ![16, 2131]⟩
abbrev S16x24 : Shape := ⟨2, ![16, 24]⟩
abbrev S16x16 : Shape := ⟨2, ![16, 16]⟩
abbrev S16x10 : Shape := ⟨2, ![16, 10]⟩
abbrev S16x25 : Shape := ⟨2, ![16, 25]⟩
abbrev S16x2176 : Shape := ⟨2, ![16, 2176]⟩
abbrev S16x2160 : Shape := ⟨2, ![16, 2160]⟩
abbrev S18x768 : Shape := ⟨2, ![18, 768]⟩
abbrev S56x768 : Shape := ⟨2, ![56, 768]⟩
abbrev S16x18 : Shape := ⟨2, ![16, 18]⟩
abbrev S16x54 : Shape := ⟨2, ![16, 54]⟩
abbrev S2160x54 : Shape := ⟨2, ![2160, 54]⟩
abbrev S2160x2 : Shape := ⟨2, ![2160, 2]⟩
abbrev S2160x56 : Shape := ⟨2, ![2160, 56]⟩
abbrev S2160x768 : Shape := ⟨2, ![2160, 768]⟩
abbrev S2160x256 : Shape := ⟨2, ![2160, 256]⟩
abbrev S2160 : Shape := ⟨1, ![2160]⟩
abbrev S2160x1 : Shape := ⟨2, ![2160, 1]⟩
abbrev S1024x135x768 : Shape := ⟨3, ![1024, 135, 768]⟩

abbrev nBuf : Space → Nat
  | .hbm => 65
  | .vmem => 13
  | .smem => 0
  | _ => 0

abbrev bufTy : (tb : Table) → Fin (tcTables nBuf tb) → BufTy
  | .hbm, ⟨0, _⟩ => ⟨S1024x2154, .f32⟩
  | .hbm, ⟨1, _⟩ => ⟨S256x16, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x16, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x16, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S24x16, .f32⟩
  | .hbm, ⟨14, _⟩ => ⟨S24x16, .f32⟩
  | .hbm, ⟨15, _⟩ => ⟨S16x256, .f32⟩
  | .hbm, ⟨16, _⟩ => ⟨S_, .i32⟩
  | .hbm, ⟨17, _⟩ => ⟨S_, .f32⟩
  | .hbm, ⟨18, _⟩ => ⟨S24x256, .f32⟩
  | .hbm, ⟨19, _⟩ => ⟨S16x256, .f32⟩
  | .hbm, ⟨20, _⟩ => ⟨S_, .i32⟩
  | .hbm, ⟨21, _⟩ => ⟨S_, .f32⟩
  | .hbm, ⟨22, _⟩ => ⟨S24x256, .f32⟩
  | .hbm, ⟨23, _⟩ => ⟨S16x256, .f32⟩
  | .hbm, ⟨24, _⟩ => ⟨S_, .i32⟩
  | .hbm, ⟨25, _⟩ => ⟨S_, .f32⟩
  | .hbm, ⟨26, _⟩ => ⟨S24x256, .f32⟩
  | .hbm, ⟨27, _⟩ => ⟨S24x256, .f32⟩
  | .hbm, ⟨28, _⟩ => ⟨S16x256, .f32⟩
  | .hbm, ⟨29, _⟩ => ⟨S_, .i32⟩
  | .hbm, ⟨30, _⟩ => ⟨S_, .f32⟩
  | .hbm, ⟨31, _⟩ => ⟨S24x256, .f32⟩
  | .hbm, ⟨32, _⟩ => ⟨S16x256, .f32⟩
  | .hbm, ⟨33, _⟩ => ⟨S_, .i32⟩
  | .hbm, ⟨34, _⟩ => ⟨S_, .f32⟩
  | .hbm, ⟨35, _⟩ => ⟨S24x256, .f32⟩
  | .hbm, ⟨36, _⟩ => ⟨S16x256, .f32⟩
  | .hbm, ⟨37, _⟩ => ⟨S_, .i32⟩
  | .hbm, ⟨38, _⟩ => ⟨S_, .f32⟩
  | .hbm, ⟨39, _⟩ => ⟨S24x256, .f32⟩
  | .hbm, ⟨40, _⟩ => ⟨S_, .f32⟩
  | .hbm, ⟨41, _⟩ => ⟨S24x256, .f32⟩
  | .hbm, ⟨42, _⟩ => ⟨S24x256, .f32⟩
  | .hbm, ⟨43, _⟩ => ⟨S24x256, .f32⟩
  | .hbm, ⟨44, _⟩ => ⟨S24x256, .f32⟩
  | .hbm, ⟨45, _⟩ => ⟨S24x768, .f32⟩
  | .hbm, ⟨46, _⟩ => ⟨S768, .f32⟩
  | .hbm, ⟨47, _⟩ => ⟨S1x768, .f32⟩
  | .hbm, ⟨48, _⟩ => ⟨S768, .f32⟩
  | .hbm, ⟨49, _⟩ => ⟨S1x768, .f32⟩
  | .hbm, ⟨50, _⟩ => ⟨S768, .f32⟩
  | .hbm, ⟨51, _⟩ => ⟨S1x768, .f32⟩
  | .hbm, ⟨52, _⟩ => ⟨S135x16x135, .i32⟩
  | .hbm, ⟨53, _⟩ => ⟨S135x16x135, .i32⟩
  | .hbm, ⟨54, _⟩ => ⟨S135x16x135, .i1⟩
  | .hbm, ⟨55, _⟩ => ⟨S135x16x135, .f32⟩
  | .hbm, ⟨56, _⟩ => ⟨S2160x135, .f32⟩
  | .hbm, ⟨57, _⟩ => ⟨S2160x135, .bf16⟩
  | .hbm, ⟨58, _⟩ => ⟨S135x1024x768, .f32⟩
  | .hbm, ⟨59, _⟩ => ⟨S1024x135, .f32⟩
  | .hbm, ⟨60, _⟩ => ⟨S1024x135x768, .f32⟩
  | .hbm, ⟨61, _⟩ => ⟨S_, .f32⟩
  | .hbm, ⟨62, _⟩ => ⟨S1024x135, .f32⟩
  | .hbm, ⟨63, _⟩ => ⟨S1024x135, .i1⟩
  | .hbm, ⟨64, _⟩ => ⟨S1024x135, .i1⟩
  | .local _ .vmem, ⟨0, _⟩ => ⟨S16x2154, .f32⟩
  | .local _ .vmem, ⟨1, _⟩ => ⟨S16x2154, .f32⟩
  | .local _ .vmem, ⟨2, _⟩ => ⟨S24x16, .f32⟩
  | .local _ .vmem, ⟨3, _⟩ => ⟨S24x16, .f32⟩
  | .local _ .vmem, ⟨4, _⟩ => ⟨S24x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S2160x135, .bf16⟩
  | .local _ .vmem, ⟨9, _⟩ => ⟨S135x16x768, .f32⟩
  | .local _ .vmem, ⟨10, _⟩ => ⟨S135x16x768, .f32⟩
  | .local _ .vmem, ⟨11, _⟩ => ⟨S16x135, .f32⟩
  | .local _ .vmem, ⟨12, _⟩ => ⟨S16x135, .f32⟩
  | _, _ => ⟨S1024x2154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_c_1 : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_c_2 : Ref sig .tc := ⟨.hbm, 24, rfl⟩
abbrev main_call2_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_call3_v0 : Ref sig .tc := ⟨.hbm, 30, rfl⟩
abbrev main_v8 : Ref sig .tc := ⟨.hbm, 31, rfl⟩
abbrev main_v9 : Ref sig .tc := ⟨.hbm, 32, rfl⟩
abbrev main_c_4 : Ref sig .tc := ⟨.hbm, 33, rfl⟩
abbrev main_call4_v0 : Ref sig .tc := ⟨.hbm, 34, rfl⟩
abbrev main_v10 : Ref sig .tc := ⟨.hbm, 35, rfl⟩
abbrev main_v11 : Ref sig .tc := ⟨.hbm, 36, rfl⟩
abbrev main_c_5 : Ref sig .tc := ⟨.hbm, 37, rfl⟩
abbrev main_call5_v0 : Ref sig .tc := ⟨.hbm, 38, rfl⟩
abbrev main_v12 : Ref sig .tc := ⟨.hbm, 39, rfl⟩
abbrev main_cst_6 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30_0 : Ref sig .tc := ⟨.hbm, 58, rfl⟩
abbrev main_v30_1 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2160x135 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S135x16x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x135 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1024x2154 : Shape := ⟨2, ![1024, 2154]⟩
abbrev S256x16 : Shape := ⟨2, ![256, 16]⟩
abbrev S256 : Shape := ⟨1, ![256]⟩
abbrev S10x21 : Shape := ⟨2, ![10, 21]⟩
abbrev S2151 : Shape := ⟨1, ![2151]⟩
abbrev S1024x2151 : Shape := ⟨2, ![1024, 2151]⟩
abbrev S1024x2131 : Shape := ⟨2, ![1024, 2131]⟩
abbrev S_ : Shape := ⟨0, ![]⟩
abbrev S1024x21 : Shape := ⟨2, ![1024, 21]⟩
abbrev S21x10 : Shape := ⟨2, ![21, 10]⟩
abbrev S1024x10 : Shape := ⟨2, ![1024, 10]⟩
abbrev S1x2151 : Shape := ⟨2, ![1, 2151]⟩
abbrev S2151x1 : Shape := ⟨2, ![2151, 1]⟩
abbrev S2151x2151 : Shape := ⟨2, ![2151, 2151]⟩
abbrev S1 : Shape := ⟨1, ![1]⟩
abbrev S1024x1 : Shape := ⟨2, ![1024, 1]⟩
abbrev S1024x2160 : Shape := ⟨2, ![1024, 2160]⟩
abbrev S1024x2159 : Shape := ⟨2, ![1024, 2159]⟩
abbrev S1024x135x16 : Shape := ⟨3, ![1024, 135, 16]⟩
abbrev S1024x135 : Shape := ⟨2, ![1024, 135]⟩
abbrev S16x256 : Shape := ⟨2, ![16, 256]⟩
abbrev S1024x135x256 : Shape := ⟨3, ![1024, 135, 256]⟩
abbrev S1x1x256 : Shape := ⟨3, ![1, 1, 256]⟩
abbrev S1024x135x1 : Shape := ⟨3, ![1024, 135, 1]⟩
abbrev S1024x135x768 : Shape := ⟨3, ![1024, 135, 768]⟩

abbrev nBuf : Space → Nat
  | .hbm => 324
  | .vmem => 0
  | .smem => 0
  | _ => 0

abbrev hbmTy0_0 (i : Nat) : BufTy := match i % 128 with
  | 0 => ⟨S1024x2154, .f32⟩
  | 1 => ⟨S256x16, .f32⟩
  | 2 => ⟨S256, .f32⟩
  | 3 => ⟨S256, .f32⟩
  | 4 => ⟨S256, .f32⟩
  | 5 => ⟨S256x16, .f32⟩
  | 6 => ⟨S256, .f32⟩
  | 7 => ⟨S256, .f32⟩
  | 8 => ⟨S256, .f32⟩
  | 9 => ⟨S256x16, .f32⟩
  | 10 => ⟨S256, .f32⟩
  | 11 => ⟨S256, .f32⟩
  | 12 => ⟨S256, .f32⟩
  | 13 => ⟨S10x21, .f32⟩
  | 14 => ⟨S10x21, .f32⟩
  | 15 => ⟨S2151, .f32⟩
  | 16 => ⟨S2151, .f32⟩
  | 17 => ⟨S1024x2151, .f32⟩
  | 18 => ⟨S1024x2131, .f32⟩
  | 19 => ⟨S_, .f32⟩
  | 20 => ⟨S1024x2131, .f32⟩
  | 21 => ⟨S1024x2131, .f32⟩
  | 22 => ⟨S_, .f32⟩
  | 23 => ⟨S1024x2131, .f32⟩
  | 24 => ⟨S1024x2131, .f32⟩
  | 25 => ⟨S1024x2131, .f32⟩
  | 26 => ⟨S_, .f32⟩
  | 27 => ⟨S1024x2131, .f32⟩
  | 28 => ⟨S1024x2131, .f32⟩
  | 29 => ⟨S1024x2131, .f32⟩
  | 30 => ⟨S1024x2131, .f32⟩
  | 31 => ⟨S_, .f32⟩
  | 32 => ⟨S1024x2131, .f32⟩
  | 33 => ⟨S1024x2131, .f32⟩
  | 34 => ⟨S1024x2131, .f32⟩
  | 35 => ⟨S1024x2131, .f32⟩
  | 36 => ⟨S_, .f32⟩
  | 37 => ⟨S1024x2131, .f32⟩
  | 38 => ⟨S1024x2131, .f32⟩
  | 39 => ⟨S1024x2131, .f32⟩
  | 40 => ⟨S1024x2131, .f32⟩
  | 41 => ⟨S_, .f32⟩
  | 42 => ⟨S1024x2131, .f32⟩
  | 43 => ⟨S1024x2131, .f32⟩
  | 44 => ⟨S1024x2131, .f32⟩
  | 45 => ⟨S1024x2131, .f32⟩
  | 46 => ⟨S_, .f32⟩
  | 47 => ⟨S1024x2131, .f32⟩
  | 48 => ⟨S1024x2131, .f32⟩
  | 49 => ⟨S1024x2131, .f32⟩
  | 50 => ⟨S1024x2131, .f32⟩
  | 51 => ⟨S_, .f32⟩
  | 52 => ⟨S1024x2131, .f32⟩
  | 53 => ⟨S1024x2131, .f32⟩
  | 54 => ⟨S1024x2131, .f32⟩
  | 55 => ⟨S1024x2131, .f32⟩
  | 56 => ⟨S_, .f32⟩
  | 57 => ⟨S1024x2131, .f32⟩
  | 58 => ⟨S1024x2131, .f32⟩
  | 59 => ⟨S1024x2131, .f32⟩
  | 60 => ⟨S1024x2131, .f32⟩
  | 61 => ⟨S_, .f32⟩
  | 62 => ⟨S1024x2131, .f32⟩
  | 63 => ⟨S1024x2131, .f32⟩
  | 64 => ⟨S1024x2131, .f32⟩
  | 65 => ⟨S1024x2131, .f32⟩
  | 66 => ⟨S_, .f32⟩
  | 67 => ⟨S1024x2131, .f32⟩
  | 68 => ⟨S1024x2131, .f32⟩
  | 69 => ⟨S1024x2131, .f32⟩
  | 70 => ⟨S1024x2131, .f32⟩
  | 71 => ⟨S_, .f32⟩
  | 72 => ⟨S1024x2131, .f32⟩
  | 73 => ⟨S1024x2131, .f32⟩
  | 74 => ⟨S1024x2131, .f32⟩
  | 75 => ⟨S1024x2131, .f32⟩
  | 76 => ⟨S_, .f32⟩
  | 77 => ⟨S1024x2131, .f32⟩
  | 78 => ⟨S1024x2131, .f32⟩
  | 79 => ⟨S1024x2131, .f32⟩
  | 80 => ⟨S1024x2131, .f32⟩
  | 81 => ⟨S_, .f32⟩
  | 82 => ⟨S1024x2131, .f32⟩
  | 83 => ⟨S1024x2131, .f32⟩
  | 84 => ⟨S1024x2131, .f32⟩
  | 85 => ⟨S1024x2131, .f32⟩
  | 86 => ⟨S_, .f32⟩
  | 87 => ⟨S1024x2131, .f32⟩
  | 88 => ⟨S1024x2131, .f32⟩
  | 89 => ⟨S1024x2131, .f32⟩
  | 90 => ⟨S1024x2131, .f32⟩
  | 91 => ⟨S_, .f32⟩
  | 92 => ⟨S1024x2131, .f32⟩
  | 93 => ⟨S1024x2131, .f32⟩
  | 94 => ⟨S1024x2131, .f32⟩
  | 95 => ⟨S1024x2131, .f32⟩
  | 96 => ⟨S_, .f32⟩
  | 97 => ⟨S1024x2131, .f32⟩
  | 98 => ⟨S1024x2131, .f32⟩
  | 99 => ⟨S1024x2131, .f32⟩
  | 100 => ⟨S1024x2131, .f32⟩
  | 101 => ⟨S_, .f32⟩
  | 102 => ⟨S1024x2131, .f32⟩
  | 103 => ⟨S1024x2131, .f32⟩
  | 104 => ⟨S1024x2131, .f32⟩
  | 105 => ⟨S1024x2131, .f32⟩
  | 106 => ⟨S_, .f32⟩
  | 107 => ⟨S1024x2131, .f32⟩
  | 108 => ⟨S1024x2131, .f32⟩
  | 109 => ⟨S1024x2131, .f32⟩
  | 110 => ⟨S1024x2131, .f32⟩
  | 111 => ⟨S_, .f32⟩
  | 112 => ⟨S1024x2131, .f32⟩
  | 113 => ⟨S1024x2131, .f32⟩
  | 114 => ⟨S1024x2131, .f32⟩
  | 115 => ⟨S1024x2131, .f32⟩
  | 116 => ⟨S_, .f32⟩
  | 117 => ⟨S1024x2131, .f32⟩
  | 118 => ⟨S1024x2131, .f32⟩
  | 119 => ⟨S1024x2131, .f32⟩
  | 120 => ⟨S1024x2131, .f32⟩
  | 121 => ⟨S_, .f32⟩
  | 122 => ⟨S1024x2131, .f32⟩
  | 123 => ⟨S1024x2131, .f32⟩
  | 124 => ⟨S1024x2131, .f32⟩
  | 125 => ⟨S1024x21, .f32⟩
  | 126 => ⟨S21x10, .f32⟩
  | 127 => ⟨S1024x10, .f32⟩
  | _ => ⟨S1024x2154, .f32⟩

abbrev hbmTy0_1 (i : Nat) : BufTy := match i % 128 with
  | 0 => ⟨S1024x21, .f32⟩
  | 1 => ⟨S21x10, .f32⟩
  | 2 => ⟨S1024x10, .f32⟩
  | 3 => ⟨S1024x2151, .f32⟩
  | 4 => ⟨S1x2151, .f32⟩
  | 5 => ⟨S2151x1, .f32⟩
  | 6 => ⟨S2151x2151, .f32⟩
  | 7 => ⟨S2151x2151, .f32⟩
  | 8 => ⟨S2151x2151, .i1⟩
  | 9 => ⟨S2151x2151, .i32⟩
  | 10 => ⟨S_, .i32⟩
  | 11 => ⟨S2151, .i32⟩
  | 12 => ⟨S_, .i32⟩
  | 13 => ⟨S_, .i32⟩
  | 14 => ⟨S_, .i32⟩
  | 15 => ⟨S2151, .i32⟩
  | 16 => ⟨S2151, .i32⟩
  | 17 => ⟨S_, .i32⟩
  | 18 => ⟨S2151, .i32⟩
  | 19 => ⟨S2151, .i32⟩
  | 20 => ⟨S_, .i32⟩
  | 21 => ⟨S2151, .i32⟩
  | 22 => ⟨S2151, .i32⟩
  | 23 => ⟨S2151x1, .i32⟩
  | 24 => ⟨S1024x2151, .f32⟩
  | 25 => ⟨S2151x1, .i32⟩
  | 26 => ⟨S1024x2151, .f32⟩
  | 27 => ⟨S1024x2151, .f32⟩
  | 28 => ⟨S_, .i32⟩
  | 29 => ⟨S2151, .i32⟩
  | 30 => ⟨S2151, .i32⟩
  | 31 => ⟨S2151x1, .i32⟩
  | 32 => ⟨S2151, .f32⟩
  | 33 => ⟨S2151x1, .i32⟩
  | 34 => ⟨S2151, .f32⟩
  | 35 => ⟨S2151, .f32⟩
  | 36 => ⟨S2151, .f32⟩
  | 37 => ⟨S_, .f32⟩
  | 38 => ⟨S2151, .f32⟩
  | 39 => ⟨S2151, .i1⟩
  | 40 => ⟨S1x2151, .i1⟩
  | 41 => ⟨S2151, .f32⟩
  | 42 => ⟨S_, .f32⟩
  | 43 => ⟨S_, .f32⟩
  | 44 => ⟨S2151, .f32⟩
  | 45 => ⟨S2151, .f32⟩
  | 46 => ⟨S2151, .f32⟩
  | 47 => ⟨S1x2151, .f32⟩
  | 48 => ⟨S1024x2151, .f32⟩
  | 49 => ⟨S1024x2151, .f32⟩
  | 50 => ⟨S1024x2151, .f32⟩
  | 51 => ⟨S1024x2151, .i1⟩
  | 52 => ⟨S1024x2151, .f32⟩
  | 53 => ⟨S1, .f32⟩
  | 54 => ⟨S_, .f32⟩
  | 55 => ⟨S2151, .f32⟩
  | 56 => ⟨S2151, .i1⟩
  | 57 => ⟨S1x2151, .i1⟩
  | 58 => ⟨S1024x1, .f32⟩
  | 59 => ⟨S1024x2151, .i1⟩
  | 60 => ⟨S1024x2151, .f32⟩
  | 61 => ⟨S1024x2151, .f32⟩
  | 62 => ⟨S1, .f32⟩
  | 63 => ⟨S_, .f32⟩
  | 64 => ⟨S2151, .f32⟩
  | 65 => ⟨S2151, .i1⟩
  | 66 => ⟨S1x2151, .i1⟩
  | 67 => ⟨S1024x1, .f32⟩
  | 68 => ⟨S1024x2151, .i1⟩
  | 69 => ⟨S1024x2151, .f32⟩
  | 70 => ⟨S1024x2151, .f32⟩
  | 71 => ⟨S_, .i32⟩
  | 72 => ⟨S_, .f32⟩
  | 73 => ⟨S1024x2160, .f32⟩
  | 74 => ⟨S1024x2159, .f32⟩
  | 75 => ⟨S1024x2159, .f32⟩
  | 76 => ⟨S1024x2159, .f32⟩
  | 77 => ⟨S1024x1, .f32⟩
  | 78 => ⟨S1024x2160, .f32⟩
  | 79 => ⟨S1024x2159, .f32⟩
  | 80 => ⟨S1024x2159, .f32⟩
  | 81 => ⟨S1024x2159, .f32⟩
  | 82 => ⟨S1024x1, .f32⟩
  | 83 => ⟨S1024x2160, .f32⟩
  | 84 => ⟨S1024x135x16, .f32⟩
  | 85 => ⟨S_, .f32⟩
  | 86 => ⟨S1024x135x16, .f32⟩
  | 87 => ⟨S1024x135x16, .i1⟩
  | 88 => ⟨S_, .i1⟩
  | 89 => ⟨S1024x135, .i1⟩
  | 90 => ⟨S1024x135x16, .f32⟩
  | 91 => ⟨S16x256, .f32⟩
  | 92 => ⟨S1024x135x256, .f32⟩
  | 93 => ⟨S1x1x256, .f32⟩
  | 94 => ⟨S1024x135x256, .f32⟩
  | 95 => ⟨S1024x135x256, .f32⟩
  | 96 => ⟨S_, .f32⟩
  | 97 => ⟨S1024x135, .f32⟩
  | 98 => ⟨S1024x135x1, .f32⟩
  | 99 => ⟨S_, .f32⟩
  | 100 => ⟨S1024x135x1, .f32⟩
  | 101 => ⟨S1024x135x1, .f32⟩
  | 102 => ⟨S1024x135x256, .f32⟩
  | 103 => ⟨S1024x135x256, .f32⟩
  | 104 => ⟨S1024x135x256, .f32⟩
  | 105 => ⟨S_, .f32⟩
  | 106 => ⟨S1024x135, .f32⟩
  | 107 => ⟨S1024x135x1, .f32⟩
  | 108 => ⟨S_, .f32⟩
  | 109 => ⟨S1024x135x1, .f32⟩
  | 110 => ⟨S1024x135x1, .f32⟩
  | 111 => ⟨S1024x135x256, .f32⟩
  | 112 => ⟨S1024x135x256, .f32⟩
  | 113 => ⟨S_, .f32⟩
  | 114 => ⟨S1024x135x1, .f32⟩
  | 115 => ⟨S1024x135x1, .f32⟩
  | 116 => ⟨S1024x135x1, .f32⟩
  | 117 => ⟨S1024x135x256, .f32⟩
  | 118 => ⟨S1024x135x256, .f32⟩
  | 119 => ⟨S1x1x256, .f32⟩
  | 120 => ⟨S1024x135x256, .f32⟩
  | 121 => ⟨S1024x135x256, .f32⟩
  | 122 => ⟨S1x1x256, .f32⟩
  | 123 => ⟨S1024x135x256, .f32⟩
  | 124 => ⟨S1024x135x256, .f32⟩
  | 125 => ⟨S1024x135x16, .f32⟩
  | 126 => ⟨S16x256, .f32⟩
  | 127 => ⟨S1024x135x256, .f32⟩
  | _ => ⟨S1024x2154, .f32⟩

abbrev hbmTy0_2 (i : Nat) : BufTy := match i % 128 with
  | 0 => ⟨S1x1x256, .f32⟩
  | 1 => ⟨S1024x135x256, .f32⟩
  | 2 => ⟨S1024x135x256, .f32⟩
  | 3 => ⟨S_, .f32⟩
  | 4 => ⟨S1024x135, .f32⟩
  | 5 => ⟨S1024x135x1, .f32⟩
  | 6 => ⟨S_, .f32⟩
  | 7 => ⟨S1024x135x1, .f32⟩
  | 8 => ⟨S1024x135x1, .f32⟩
  | 9 => ⟨S1024x135x256, .f32⟩
  | 10 => ⟨S1024x135x256, .f32⟩
  | 11 => ⟨S1024x135x256, .f32⟩
  | 12 => ⟨S_, .f32⟩
  | 13 => ⟨S1024x135, .f32⟩
  | 14 => ⟨S1024x135x1, .f32⟩
  | 15 => ⟨S_, .f32⟩
  | 16 => ⟨S1024x135x1, .f32⟩
  | 17 => ⟨S1024x135x1, .f32⟩
  | 18 => ⟨S1024x135x256, .f32⟩
  | 19 => ⟨S1024x135x256, .f32⟩
  | 20 => ⟨S_, .f32⟩
  | 21 => ⟨S1024x135x1, .f32⟩
  | 22 => ⟨S1024x135x1, .f32⟩
  | 23 => ⟨S1024x135x1, .f32⟩
  | 24 => ⟨S1024x135x256, .f32⟩
  | 25 => ⟨S1024x135x256, .f32⟩
  | 26 => ⟨S1x1x256, .f32⟩
  | 27 => ⟨S1024x135x256, .f32⟩
  | 28 => ⟨S1024x135x256, .f32⟩
  | 29 => ⟨S1x1x256, .f32⟩
  | 30 => ⟨S1024x135x256, .f32⟩
  | 31 => ⟨S1024x135x256, .f32⟩
  | 32 => ⟨S1024x135x16, .f32⟩
  | 33 => ⟨S16x256, .f32⟩
  | 34 => ⟨S1024x135x256, .f32⟩
  | 35 => ⟨S1x1x256, .f32⟩
  | 36 => ⟨S1024x135x256, .f32⟩
  | 37 => ⟨S1024x135x256, .f32⟩
  | 38 => ⟨S_, .f32⟩
  | 39 => ⟨S1024x135, .f32⟩
  | 40 => ⟨S1024x135x1, .f32⟩
  | 41 => ⟨S_, .f32⟩
  | 42 => ⟨S1024x135x1, .f32⟩
  | 43 => ⟨S1024x135x1, .f32⟩
  | 44 => ⟨S1024x135x256, .f32⟩
  | 45 => ⟨S1024x135x256, .f32⟩
  | 46 => ⟨S1024x135x256, .f32⟩
  | 47 => ⟨S_, .f32⟩
  | 48 => ⟨S1024x135, .f32⟩
  | 49 => ⟨S1024x135x1, .f32⟩
  | 50 => ⟨S_, .f32⟩
  | 51 => ⟨S1024x135x1, .f32⟩
  | 52 => ⟨S1024x135x1, .f32⟩
  | 53 => ⟨S1024x135x256, .f32⟩
  | 54 => ⟨S1024x135x256, .f32⟩
  | 55 => ⟨S_, .f32⟩
  | 56 => ⟨S1024x135x1, .f32⟩
  | 57 => ⟨S1024x135x1, .f32⟩
  | 58 => ⟨S1024x135x1, .f32⟩
  | 59 => ⟨S1024x135x256, .f32⟩
  | 60 => ⟨S1024x135x256, .f32⟩
  | 61 => ⟨S1x1x256, .f32⟩
  | 62 => ⟨S1024x135x256, .f32⟩
  | 63 => ⟨S1024x135x256, .f32⟩
  | 64 => ⟨S1x1x256, .f32⟩
  | 65 => ⟨S1024x135x256, .f32⟩
  | 66 => ⟨S1024x135x256, .f32⟩
  | 67 => ⟨S1024x135x768, .f32⟩
  | _ => ⟨S1024x2154, .f32⟩

abbrev hbmTy (i : Nat) : BufTy := match i / 128 with
  | 0 => hbmTy0_0 i
  | 1 => hbmTy0_1 i
  | 2 => hbmTy0_2 i
  | _ => ⟨S1024x2154, .f32⟩

abbrev bufTy : (tb : Table) → Fin (tcTables nBuf tb) → BufTy
  | .hbm, ⟨i, _⟩ => hbmTy i
  | _, _ => ⟨S1024x2154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_v0 : Ref sig .tc := ⟨.hbm, 17, rfl⟩
abbrev main_v1 : Ref sig .tc := ⟨.hbm, 18, rfl⟩
abbrev main_cst_3 : Ref sig .tc := ⟨.hbm, 19, rfl⟩
abbrev main_v2 : Ref sig .tc := ⟨.hbm, 20, rfl⟩
abbrev main_v3 : Ref sig .tc := ⟨.hbm, 21, rfl⟩
abbrev main_cst_4 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_6 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_9 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_15 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_16 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_17 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_18 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_19 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_20 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_21 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_22 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_23 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_24 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c : Ref sig .tc := ⟨.hbm, 138, rfl⟩
abbrev main_v99 : Ref sig .tc := ⟨.hbm, 139, rfl⟩
abbrev main_c_25 : Ref sig .tc := ⟨.hbm, 140, rfl⟩
abbrev main_c_26 : Ref sig .tc := ⟨.hbm, 141, rfl⟩
abbrev main_call0_v0 : Ref sig .tc := ⟨.hbm, 142, rfl⟩
abbrev main_call0_v1 : Ref sig .tc := ⟨.hbm, 143, rfl⟩
abbrev main_call0_v2 : Ref sig .tc := ⟨.hbm, 144, rfl⟩
abbrev main_call0_v3 : Ref sig .tc := ⟨.hbm, 145, rfl⟩
abbrev main_call0_v4 : Ref sig .tc := ⟨.hbm, 146, rfl⟩
abbrev main_v100 : Ref sig .tc := ⟨.hbm, 147, rfl⟩
abbrev main_c_27 : Ref sig .tc := ⟨.hbm, 148, rfl⟩
abbrev main_v101 : Ref sig .tc := ⟨.hbm, 149, rfl⟩
abbrev main_v102 : Ref sig .tc := ⟨.hbm, 150, rfl⟩
abbrev main_call1_v0 : Ref sig .tc := ⟨.hbm, 151, rfl⟩
abbrev main_v103 : Ref sig .tc := ⟨.hbm, 152, rfl⟩
abbrev main_call2_v0 : Ref sig .tc := ⟨.hbm, 153, rfl⟩
abbrev main_v104 : Ref sig .tc := ⟨.hbm, 154, rfl⟩
abbrev main_v105 : Ref sig .tc := ⟨.hbm, 155, rfl⟩
abbrev main_c_28 : Ref sig .tc := ⟨.hbm, 156, rfl⟩
abbrev main_v106 : Ref sig .tc := ⟨.hbm, 157, rfl⟩
abbrev main_v107 : Ref sig .tc := ⟨.hbm, 158, rfl⟩
abbrev main_call3_v0 : Ref sig .tc := ⟨.hbm, 159, rfl⟩
abbrev main_v108 : Ref sig .tc := ⟨.hbm, 160, rfl⟩
abbrev main_call4_v0 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_29 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_30 : Ref sig .tc := ⟨.hbm, 170, rfl⟩
abbrev main_call5_v0 : Ref sig .tc := ⟨.hbm, 171, rfl⟩
abbrev main_call5_v1 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_call6_v0 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_call7_v0 : Ref sig .tc := ⟨.hbm, 187, rfl⟩
abbrev main_call7_v1 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_call8_v0 : Ref sig .tc := ⟨.hbm, 196, rfl⟩
abbrev main_call8_v1 : Ref sig .tc := ⟨.hbm, 197, rfl⟩
abbrev main_v136 : Ref sig .tc := ⟨.hbm, 198, rfl⟩
abbrev main_c_31 : Ref sig .tc := ⟨.hbm, 199, rfl⟩
abbrev main_call9_v0 : Ref sig .tc := ⟨.hbm, 200, rfl⟩
abbrev main_v137 : Ref sig .tc := ⟨.hbm, 201, rfl⟩
abbrev main_call10_v0 : Ref sig .tc := ⟨.hbm, 202, rfl⟩
abbrev main_call10_v1 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_call11_v0 : Ref sig .tc := ⟨.hbm, 207, rfl⟩
abbrev main_call11_v1 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_32 : Ref sig .tc := ⟨.hbm, 213, rfl⟩
abbrev main_v145 : Ref sig .tc := ⟨.hbm, 214, rfl⟩
abbrev main_v146 : Ref sig .tc := ⟨.hbm, 215, rfl⟩
abbrev main_c_33 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_cst_34 : Ref sig .tc := ⟨.hbm, 224, rfl⟩
abbrev main_v154 : Ref sig .tc := ⟨.hbm, 225, rfl⟩
abbrev main_v155 : Ref sig .tc := ⟨.hbm, 226, rfl⟩
abbrev main_cst_35 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_36 : Ref sig .tc := ⟨.hbm, 233, rfl⟩
abbrev main_v161 : Ref sig .tc := ⟨.hbm, 234, rfl⟩
abbrev main_v162 : Ref sig .tc := ⟨.hbm, 235, rfl⟩
abbrev main_cst_37 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_cst_38 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_cst_39 : Ref sig .tc := ⟨.hbm, 259, rfl⟩
abbrev main_v184 : Ref sig .tc := ⟨.hbm, 260, rfl⟩
abbrev main_v185 : Ref sig .tc := ⟨.hbm, 261, rfl⟩
abbrev main_cst_40 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_cst_41 : Ref sig .tc := ⟨.hbm, 268, rfl⟩
abbrev main_v191 : Ref sig .tc := ⟨.hbm, 269, rfl⟩
abbrev main_v192 : Ref sig .tc := ⟨.hbm, 270, rfl⟩
abbrev main_cst_42 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_cst_43 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_cst_44 : Ref sig .tc := ⟨.hbm, 294, rfl⟩
abbrev main_v214 : Ref sig .tc := ⟨.hbm, 295, rfl⟩
abbrev main_v215 : Ref sig .tc := ⟨.hbm, 296, rfl⟩
abbrev main_cst_45 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_cst_46 : Ref sig .tc := ⟨.hbm, 303, rfl⟩
abbrev main_v221 : Ref sig .tc := ⟨.hbm, 304, rfl⟩
abbrev main_v222 : Ref sig .tc := ⟨.hbm, 305, rfl⟩
abbrev main_cst_47 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_cst_48 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩

abbrev nD : Nat := 1
abbrev τ : Topo := Topo.v7x

variable {F : FTy → Type} [FloatOps F]
-- ==== Proof.Grid.lean ====
module

public import Idealize.ShloMosaic.Lib.Pointwise
public import Idealize.ShloMosaic.Lib.IdealHost
public import proofs.«01_k».proof.KernelIdeal
public import proofs.«01_k».proof.ReferenceIdeal

@[expose] public section

set_option maxRecDepth 16384

open Idealize.ShloMosaic

namespace Cert.Words

/-- A word of exponent between 127 and 150 whose significand is `n` shifted up denotes the natural number `n`. -/
def GridWord (w : BitVec 32) (n : Nat) : Prop :=
  w.extractLsb' 31 1 ≠ 1#1 ∧ 127 ≤ (w.extractLsb' 23 8).toNat ∧ (w.extractLsb' 23 8).toNat ≤ 150 ∧
    2 ^ 23 + (w.extractLsb' 0 23).toNat = n * 2 ^ (150 - (w.extractLsb' 23 8).toNat)

/-- Whether a word is of this form can be decided. -/
instance (w : BitVec 32) (n : Nat) : Decidable (GridWord w n) := by
  unfold GridWord; infer_instance

/-- What such a word denotes. -/
theorem GridWord.val {w : BitVec 32} {n : Nat} (h : GridWord w n) :
    Ideal.ofBits .f32 w = ((n : ℝ) : EReal) := by
  obtain ⟨hs, h1, h2, h3⟩ := h
  simp only [Ideal.ofBits, Ideal.ieee]
  have e1 : ¬ (w.extractLsb' 23 8).toNat = 2 ^ 8 - 1 := by omega
  have e2 : ¬ (w.extractLsb' 23 8).toNat = 0 := by omega
  rw [if_neg e1, if_neg e2]
  have hs' : (w.extractLsb' (8 + 23) 1 == 1#1) = false := by simpa using hs
  rw [hs', h3]
  congr 1
  generalize (w.extractLsb' 23 8).toNat = ex at *
  obtain ⟨d, hd⟩ : ∃ d, ex + d = 150 := ⟨150 - ex, by omega⟩
  have e3 : 150 - ex = d := by omega
  have e4 : ((ex : Int) - (2 ^ (8 - 1) - 1) - ((23 : ℕ) : Int)) = -(d : Int) := by
    norm_num; omega
  rw [e3, e4]
  simp

/-- The reference's grid table holds the points 350, 351, …. -/
theorem tw_word : ∀ i : Fin 2151, GridWord (ReferenceIdeal.lit2 i) (350 + i.val) := by decide +kernel

/-- The reference's wavelength table holds the points 350, 351, …. -/
theorem ow_word : ∀ i : Fin 2151, GridWord (ReferenceIdeal.lit3 i) (350 + i.val) := by decide +kernel

/-- The kernel's front table is the reference's, turned over and padded with zeros. -/
theorem front_word : ∀ k : Fin 24, ∀ j : Fin 10,
    KernelIdeal.lit0 ⟨k.val * 16 + j.val, by omega⟩ =
      if h : k.val < 21 then ReferenceIdeal.lit0 ⟨j.val * 21 + k.val, by omega⟩ else 0x00000000#32 := by
  decide +kernel

/-- The kernel's back table is the reference's, turned over and padded with zeros. -/
theorem back_word : ∀ k : Fin 24, ∀ j : Fin 10,
    KernelIdeal.lit1 ⟨k.val * 16 + j.val, by omega⟩ =
      if h : 3 ≤ k.val then ReferenceIdeal.lit1 ⟨j.val * 21 + (k.val - 3), by omega⟩ else 0x00000000#32 := by
  decide +kernel

/-- The exponent of a word is not all ones: it denotes a real number. -/
def RealWord (w : BitVec 32) : Prop := (w.extractLsb' 23 8).toNat ≠ 2 ^ 8 - 1

/-- Whether the exponent of a word is all ones can be decided. -/
instance (w : BitVec 32) : Decidable (RealWord w) := by unfold RealWord; infer_instance

/-- Such a word denotes a real number. -/
theorem RealWord.real {w : BitVec 32} (h : RealWord w) : ∃ r : ℝ, Ideal.ofBits .f32 w = (r : EReal) := by
  simp only [Ideal.ofBits, Ideal.ieee]
  rw [if_neg h]
  split <;> exact ⟨_, rfl⟩

/-- The reference's front table holds real numbers. -/
theorem lit0_real : ∀ i : Fin 210, RealWord (ReferenceIdeal.lit0 i) := by decide +kernel

/-- The reference's back table holds real numbers. -/
theorem lit1_real : ∀ i : Fin 210, RealWord (ReferenceIdeal.lit1 i) := by decide +kernel

end Cert.Words
-- ==== Proof.Spec.lean ====
module

public import Idealize.ShloMosaic.Lib.Pointwise
public import proofs.«01_k».proof.Proof.Grid

@[expose] public section

set_option maxRecDepth 16384

noncomputable section

namespace Cert.Spec

open Idealize.ShloMosaic

/-- The words of the centred smoothing filter, in the order of the points they weigh. -/
def coef : Fin 21 → BitVec 32 :=
  ![0xBD64F80D#32, 0xBCCB8728#32, 0x3B40D0E2#32, 0x3CE0F3B3#32, 0x3D4782CE#32, 0x3D8893F6#32, 0x3DA6B499#32,
    0x3DBE2351#32, 0x3DCEE01D#32, 0x3DD8EAFF#32, 0x3DDC43F4#32, 0x3DD8EAFF#32, 0x3DCEE01D#32, 0x3DBE2351#32,
    0x3DA6B499#32, 0x3D8893F6#32, 0x3D4782CE#32, 0x3CE0F3B3#32, 0x3B40D0E2#32, 0xBCCB8728#32, 0xBD64F80D#32]

/-- The centred smoothing of a spectrum at an inner point. -/
def conv (X : Fin 2151 → EReal) (t : Fin 2131) : EReal :=
  ∑ k : Fin 21, Ideal.ofBits .f32 (coef k) * X ⟨k.val + t.val, by omega⟩

/-- The smoothed spectrum: the first ten and the last ten points from tables of their own, the inner points by the
    centred filter, and zero past the last point. -/
def sg (X : Fin 2151 → EReal) (j : Nat) : EReal :=
  if h : j < 10 then
    ∑ k : Fin 21, X ⟨k.val, by omega⟩ * Ideal.ofBits .f32 (ReferenceIdeal.lit0 ⟨j * 21 + k.val, by omega⟩)
  else if h : j - 10 < 2131 then conv X ⟨j - 10, h⟩
  else if h : j - 10 - 2131 < 10 then
    ∑ k : Fin 21, X ⟨2130 + k.val, by omega⟩ *
      Ideal.ofBits .f32 (ReferenceIdeal.lit1 ⟨(j - 10 - 2131) * 21 + k.val, by omega⟩)
  else 0

/-- The centred smoothing spelled out. -/
theorem conv_eq (X : Fin 2151 → EReal) (t : Fin 2131) :
    conv X t =
      Ideal.ofBits .f32 0xBD64F80D#32 * X ⟨t.val, by omega⟩ + Ideal.ofBits .f32 0xBCCB8728#32 * X ⟨1 + t.val, by omega⟩
      + Ideal.ofBits .f32 0x3B40D0E2#32 * X ⟨2 + t.val, by omega⟩ + Ideal.ofBits .f32 0x3CE0F3B3#32 * X ⟨3 + t.val, by omega⟩
      + Ideal.ofBits .f32 0x3D4782CE#32 * X ⟨4 + t.val, by omega⟩ + Ideal.ofBits .f32 0x3D8893F6#32 * X ⟨5 + t.val, by omega⟩
      + Ideal.ofBits .f32 0x3DA6B499#32 * X ⟨6 + t.val, by omega⟩ + Ideal.ofBits .f32 0x3DBE2351#32 * X ⟨7 + t.val, by omega⟩
      + Ideal.ofBits .f32 0x3DCEE01D#32 * X ⟨8 + t.val, by omega⟩ + Ideal.ofBits .f32 0x3DD8EAFF#32 * X ⟨9 + t.val, by omega⟩
      + Ideal.ofBits .f32 0x3DDC43F4#32 * X ⟨10 + t.val, by omega⟩ + Ideal.ofBits .f32 0x3DD8EAFF#32 * X ⟨11 + t.val, by omega⟩
      + Ideal.ofBits .f32 0x3DCEE01D#32 * X ⟨12 + t.val, by omega⟩ + Ideal.ofBits .f32 0x3DBE2351#32 * X ⟨13 + t.val, by omega⟩
      + Ideal.ofBits .f32 0x3DA6B499#32 * X ⟨14 + t.val, by omega⟩ + Ideal.ofBits .f32 0x3D8893F6#32 * X ⟨15 + t.val, by omega⟩
      + Ideal.ofBits .f32 0x3D4782CE#32 * X ⟨16 + t.val, by omega⟩ + Ideal.ofBits .f32 0x3CE0F3B3#32 * X ⟨17 + t.val, by omega⟩
      + Ideal.ofBits .f32 0x3B40D0E2#32 * X ⟨18 + t.val, by omega⟩ + Ideal.ofBits .f32 0xBCCB8728#32 * X ⟨19 + t.val, by omega⟩
      + Ideal.ofBits .f32 0xBD64F80D#32 * X ⟨20 + t.val, by omega⟩ := by
  unfold conv
  simp only [Fin.sum_univ_succ, Fin.sum_univ_zero, add_zero, coef]
  simp only [← add_assoc]
  simp only [Fin.val_succ, Fin.val_zero, zero_add, Nat.reduceAdd]
  rfl

/-! ## Real numbers among the extended reals -/

/-- The value is a real number. -/
def IsReal (e : EReal) : Prop := ∃ r : ℝ, e = (r : EReal)

/-- A real number is real among the extended reals. -/
theorem IsReal.coe (r : ℝ) : IsReal (r : EReal) := ⟨r, rfl⟩

/-- Zero is real. -/
theorem IsReal.zero : IsReal 0 := ⟨0, rfl⟩

/-- A sum of two real numbers is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A difference of two real numbers is real. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- A product of two real numbers is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of real numbers is one. -/
theorem IsReal.sum {ι : Type} (S : Finset ι) (f : ι → EReal) (h : ∀ i, IsReal (f i)) : IsReal (∑ i ∈ S, f i) := by
  classical
  induction S using Finset.induction_on with
  | empty => exact IsReal.zero
  | insert a S ha ih => rw [Finset.sum_insert ha]; exact (h a).add ih

/-- A word whose exponent is not all ones denotes a real number. -/
theorem IsReal.word {w : BitVec 32} (h : Words.RealWord w) : IsReal (Ideal.ofBits .f32 w) := h.real

/-- The words of the centred filter denote real numbers. -/
theorem coef_real : ∀ k : Fin 21, Words.RealWord (coef k) := by decide +kernel

/-- The smoothing of a real spectrum is real. -/
theorem sg_real {X : Fin 2151 → EReal} (hX : ∀ t, IsReal (X t)) (j : Nat) : IsReal (sg X j) := by
  unfold sg
  split
  · exact IsReal.sum _ _ fun k => (hX _).mul (IsReal.word (Words.lit0_real _))
  split
  · exact IsReal.sum _ _ fun k => (IsReal.word (coef_real k)).mul (hX _)
  split
  · exact IsReal.sum _ _ fun k => (hX _).mul (IsReal.word (Words.lit1_real _))
  · exact IsReal.zero

/-- Past the last point the smoothed spectrum is zero. -/
theorem sg_past (X : Fin 2151 → EReal) {j : Nat} (h : 2151 ≤ j) : sg X j = 0 := by
  unfold sg
  rw [dif_neg (by omega), dif_neg (by omega), dif_neg (by omega)]

end Cert.Spec

end
-- ==== Proof.Pre.lean ====
module

public import Idealize.ShloMosaic.Lib.Pointwise
public import Idealize.ShloMosaic.Lib.WordCmp
public import proofs.«01_k».proof.Defs
public import proofs.«01_k».proof.Proof.Spec

@[expose] public section

set_option maxRecDepth 16384

noncomputable section

namespace Cert.Pre

open Idealize.ShloMosaic Idealize.SL.Sem Cert.Pre_finite_inputs Cert.Spec

/-- The shape relations that the precondition's operations take. -/
theorem facts : Cert.Pre_finite_inputs.Facts where
  bcast_S_S1024x2154 := by decide
  reducesTo_S1024x2154_S_d0_1 := by decide
  h_S_ := by decide
  bcast_S_S256x16 := by decide
  reducesTo_S256x16_S_d0_1 := by decide
  bcast_S_S256 := by decide
  reducesTo_S256_S_d0 := by decide

/-- A number whose absolute value is less than infinity is real. -/
theorem real_of_abs (e : EReal) (h : BitVec.ofBool (decide ((FloatOps.absf (F := Ideal) (φ := .f32) e : EReal) < Ideal.ofBits .f32 2139095040#32)) = 1#1) :
    IsReal e := by
  have hw : Ideal.ofBits .f32 2139095040#32 = ⊤ := by simp [Ideal.ofBits, Ideal.ieee]
  rw [hw] at h
  have h' : (max e (-e) : EReal) < ⊤ := by
    by_contra hn
    have hd : decide ((FloatOps.absf (F := Ideal) (φ := .f32) e : EReal) < ⊤) = false := decide_eq_false hn
    rw [hd] at h
    exact absurd h (by decide)
  induction e with
  | bot => simp at h'
  | top => simp at h'
  | coe r => exact IsReal.coe r

/-- A conjunction of bits is one only where each bit is. -/
theorem fold_one {ι : Type} (s : Finset ι) (f : ι → BitVec 1) (h : Finset.fold IntOp.andi 1#1 f s = 1#1) :
    ∀ k ∈ s, f k = 1#1 := by
  classical
  induction s using Finset.induction_on with
  | empty => exact fun k hk => absurd hk (Finset.notMem_empty k)
  | insert a s ha ih =>
    rw [Finset.fold_insert ha] at h
    have both : ∀ p q : BitVec 1, IntOp.andi p q = 1#1 → p = 1#1 ∧ q = 1#1 := by decide
    intro k hk
    rcases Finset.mem_insert.mp hk with rfl | hk
    · exact (both _ _ h).1
    · exact ih (both _ _ h).2 k hk

/-- Where the bit of "every entry is finite" is one, every entry is real: an array of shape 1024x2154. -/
theorem finite_S1024x2154 (a : FVec Ideal S1024x2154 .f32) (hb : S_.BroadcastsInDim S1024x2154 (![] : Fin 0 → Fin S1024x2154.rank))
    (hr : S1024x2154.ReducesTo [0, 1] S_) (h0 : 0 < S_.numel) (i : S_.Idx)
    (h : Host.reduce IntOp.andi (cmpf .olt (Host.absf a) (broadcastInDim S1024x2154 ![] hb (constant S_ .f32 0x7F800000#32)))
      (constantI S_ 1 1#1) hr h0 i = 1#1) (x : Fin 1024) (y : Fin 2154) : IsReal (a (ix2 x y)) := by
  revert h
  pointwise
  exact fun h => real_of_abs _ (fold_one _ _ h (x, y) (Finset.mem_univ _))

/-- Where the bit of "every entry is finite" is one, every entry is real: an array of shape 256x16. -/
theorem finite_S256x16 (a : FVec Ideal S256x16 .f32) (hb : S_.BroadcastsInDim S256x16 (![] : Fin 0 → Fin S256x16.rank))
    (hr : S256x16.ReducesTo [0, 1] S_) (h0 : 0 < S_.numel) (i : S_.Idx)
    (h : Host.reduce IntOp.andi (cmpf .olt (Host.absf a) (broadcastInDim S256x16 ![] hb (constant S_ .f32 0x7F800000#32)))
      (constantI S_ 1 1#1) hr h0 i = 1#1) (x : Fin 256) (y : Fin 16) : IsReal (a (ix2 x y)) := by
  revert h
  pointwise
  exact fun h => real_of_abs _ (fold_one _ _ h (x, y) (Finset.mem_univ _))

/-- Where the bit of "every entry is finite" is one, every entry is real: an array of shape 256. -/
theorem finite_S256 (a : FVec Ideal S256 .f32) (hb : S_.BroadcastsInDim S256 (![] : Fin 0 → Fin S256.rank))
    (hr : S256.ReducesTo [0] S_) (h0 : 0 < S_.numel) (i : S_.Idx)
    (h : Host.reduce IntOp.andi (cmpf .olt (Host.absf a) (broadcastInDim S256 ![] hb (constant S_ .f32 0x7F800000#32)))
      (constantI S_ 1 1#1) hr h0 i = 1#1) (x : Fin 256) : IsReal (a (ix1 x)) := by
  revert h
  pointwise
  exact fun h => real_of_abs _ (fold_one _ _ h x (Finset.mem_univ _))

/-- What the precondition says: every entry of the spectra, of the weights and of the biases is real. -/
theorem finite_inputs [Cert.Pre_finite_inputs.Facts] (a0 : FVec Ideal S1024x2154 .f32) (a1 : FVec Ideal S256x16 .f32)
    (a2 a3 a4 : FVec Ideal S256 .f32) (a5 : FVec Ideal S256x16 .f32) (a6 a7 a8 : FVec Ideal S256 .f32)
    (a9 : FVec Ideal S256x16 .f32) (a10 a11 a12 : FVec Ideal S256 .f32)
    (h : fn (F := Ideal) a0 a1 a2 a3 a4 a5 a6 a7 a8 a9 a10 a11 a12 = fun _ => 1#1) :
    (∀ x y, IsReal (a0 (ix2 x y))) ∧ (∀ x y, IsReal (a1 (ix2 x y))) ∧ (∀ x y, IsReal (a5 (ix2 x y))) ∧ (∀ x y, IsReal (a9 (ix2 x y)))
      ∧ (∀ x, IsReal (a2 (ix1 x))) ∧ (∀ x, IsReal (a6 (ix1 x))) ∧ (∀ x, IsReal (a10 (ix1 x))) := by
  have both : ∀ p q : BitVec 1, IntOp.andi p q = 1#1 → p = 1#1 ∧ q = 1#1 := by decide
  have e := congrFun h (Shape.Idx.first Facts.h_S_)
  unfold fn fn_part1 at e
  obtain ⟨e, e10⟩ := both _ _ e
  obtain ⟨e, e9⟩ := both _ _ e
  obtain ⟨e, e6⟩ := both _ _ e
  obtain ⟨e, e5⟩ := both _ _ e
  obtain ⟨e, e2⟩ := both _ _ e
  obtain ⟨e0, e1⟩ := both _ _ e
  exact ⟨finite_S1024x2154 _ _ _ _ _ e0, finite_S256x16 _ _ _ _ _ e1, finite_S256x16 _ _ _ _ _ e5, finite_S256x16 _ _ _ _ _ e9,
    finite_S256 _ _ _ _ _ e2, finite_S256 _ _ _ _ _ e6, finite_S256 _ _ _ _ _ e10⟩

end Cert.Pre

end
-- ==== Proof.KProd.lean ====
module

public import Idealize.ShloMosaic.Lib.Pointwise
public import Idealize.ShloMosaic.Lib.Pipeline.Value
public import proofs.«01_k».proof.Proof.Gen.KernelIdeal.Skeleton

@[expose] public section

set_option maxRecDepth 16384

noncomputable section

namespace Cert.KPay

open Idealize.ShloMosaic Idealize.SL.Sem Cert.KernelIdeal Cert.KernelIdeal.Gen

/-- A window of eighteen columns fits in the filtered rows at every patch. -/
theorem slices_patch (p : Fin 135) : S16x2176.Slices ![0, 16 * p.val] S16x18 := by
  refine ⟨rfl, fun a => ?_⟩
  fin_cases a
  · exact Nat.le_refl _
  · show 16 * p.val + 18 ≤ 2176
    omega

/-- Patch `p` of the block: its eighteen columns twice from the high part and once from the low part. -/
def piece (A B : FVec Ideal S16x2176 .bf16) (p : Fin 135) : FVec Ideal S16x54 .bf16 :=
  concatenate S16x54 1
    [⟨S16x18, extractStridedSlice S16x18 ![0, 16 * p.val] A (slices_patch p)⟩,
      ⟨S16x18, extractStridedSlice S16x18 ![0, 16 * p.val] A (slices_patch p)⟩,
      ⟨S16x18, extractStridedSlice S16x18 ![0, 16 * p.val] B (slices_patch p)⟩]
    concatenates_S16x18_S16x18_S16x18_S16x54_d1

/-- The patches are stacked one under another. -/
theorem stack_fits : Shape.Concatenates
    ((List.ofFn fun _ : Fin 135 => S16x54)) S2160x54 0 := by decide +kernel

/-- The patches stacked. -/
def stacked (A B : FVec Ideal S16x2176 .bf16) : FVec Ideal S2160x54 .bf16 :=
  concatenate S2160x54 0 (List.ofFn fun p : Fin 135 => (⟨S16x54, piece A B p⟩ : (s : Shape) × (s.Idx → Ideal .bf16)))
    (by rw [List.map_ofFn]; exact stack_fits)

/-- The product of the stacked patches, two columns of ones beside them, with the weights. -/
def prod (A B : FVec Ideal S16x2176 .bf16) (W : FVec Ideal S56x768 .bf16) : FVec Ideal S2160x768 .f32 :=
  matmul dot_S2160x56_S56x768_S2160x768_1_0_0_1_n_n none
    (concatenate S2160x56 1 [⟨S2160x54, stacked A B⟩, ⟨S2160x2, broadcast S2160x2 (Scalar.ofBits .bf16 0x3F80#16)⟩]
      concatenates_S2160x54_S2160x2_S2160x56_d1) W (constant S2160x768 .f32 0x00000000#32)

/-- The first group of columns less its mean. -/
def ctr (M : FVec Ideal S2160x768 .f32) : FVec Ideal S2160x256 .f32 :=
  subf (extractStridedSlice S2160x256 ![0, 0] M slices_S2160x768_o0_0_S2160x256)
    (broadcastTo S2160x256
      (divf
        (shapeCast S2160x1
          (multiReduction .add [1] S2160
            (extractStridedSlice S2160x256 ![0, 0] M slices_S2160x768_o0_0_S2160x256) 0x00000000#32
            reduces_S2160x256_S2160 (.inl rfl) rfl) shapeCasts_S2160_S2160x1)
        (broadcast S2160x1 (Scalar.ofBits .f32 0x43800000#32)))
      broadcasts_S2160x1_S2160x256)

/-- The mean square of the first group of columns. -/
def msq (M : FVec Ideal S2160x768 .f32) : FVec Ideal S2160x1 .f32 :=
  divf
    (shapeCast S2160x1
      (multiReduction .add [1] S2160 (mulf (ctr M) (ctr M)) 0x00000000#32 reduces_S2160x256_S2160 (.inl rfl) rfl)
      shapeCasts_S2160_S2160x1)
    (broadcast S2160x1 (Scalar.ofBits .f32 0x43800000#32))

/-- The normalized block of a product: each group of 256 columns centred, scaled, weighed and shifted. -/
def normed (M : FVec Ideal S2160x768 .f32) (g be : Vec Ideal S1x768 .f32) : FVec Ideal S135x16x768 .f32 :=
  k0_pay1 (k0_pay143 M (ctr M) (msq M) g) be

set_option maxHeartbeats 0 in
/-- The body's payload is the normalized product of the stacked patches. -/
theorem payload_eq (v83 : FVec Ideal S16x2131 .f32) (v87 : FVec Ideal S16x10 .f32) (v88 : Vec Ideal S16x24 .f32)
    (v89 : Vec Ideal S24x16 .f32) (A B : FVec Ideal S16x2176 .bf16) (W : FVec Ideal S56x768 .bf16)
    (g be : Vec Ideal S1x768 .f32) (hA : A = k0_pay8 v83 v87 v88 v89) (hB : B = k0_pay9 v83 v87 v88 v89) :
    k0_pay1 (k0_pay143 (k0_pay140 A B W (k0_pay11 v83 v87 v88 v89) (k0_pay12 v83 v87 v88 v89) (k0_pay14 B
      (k0_pay13 v83 v87 v88 v89)) (k0_pay15 A B) (k0_pay16 A B) (k0_pay17 A B) (k0_pay18 A B) (k0_pay19 A B)
      (k0_pay20 A B) (k0_pay21 A B) (k0_pay22 A B) (k0_pay23 A B) (k0_pay24 A B) (k0_pay25 A B) (k0_pay26 A B)
      (k0_pay27 A B) (k0_pay28 A B) (k0_pay29 A B) (k0_pay30 A B) (k0_pay31 A B) (k0_pay32 A B) (k0_pay33 A B)
      (k0_pay35 B (k0_pay34 A)) (k0_pay36 A B) (k0_pay37 A B) (k0_pay38 A B) (k0_pay39 A B) (k0_pay40 A B)
      (k0_pay41 A B) (k0_pay42 A B) (k0_pay43 A B) (k0_pay44 A B) (k0_pay45 A B) (k0_pay46 A B) (k0_pay47 A B)
      (k0_pay48 A B) (k0_pay49 A B) (k0_pay50 A B) (k0_pay51 A B) (k0_pay52 A B) (k0_pay53 A B) (k0_pay54 A B)
      (k0_pay56 B (k0_pay55 A)) (k0_pay57 A B) (k0_pay58 A B) (k0_pay59 A B) (k0_pay60 A B) (k0_pay61 A B)
      (k0_pay62 A B) (k0_pay63 A B) (k0_pay64 A B) (k0_pay65 A B) (k0_pay66 A B) (k0_pay67 A B) (k0_pay68 A B)
      (k0_pay69 A B) (k0_pay70 A B) (k0_pay71 A B) (k0_pay72 A B) (k0_pay73 A B) (k0_pay74 A B) (k0_pay75 A B)
      (k0_pay77 B (k0_pay76 A)) (k0_pay78 A B) (k0_pay79 A B) (k0_pay80 A B) (k0_pay81 A B) (k0_pay82 A B)
      (k0_pay83 A B) (k0_pay84 A B) (k0_pay85 A B) (k0_pay86 A B) (k0_pay87 A B) (k0_pay88 A B) (k0_pay89 A B)
      (k0_pay90 A B) (k0_pay91 A B) (k0_pay92 A B) (k0_pay93 A B) (k0_pay94 A B) (k0_pay95 A B) (k0_pay96 A B)
      (k0_pay98 B (k0_pay97 A)) (k0_pay99 A B) (k0_pay100 A B) (k0_pay101 A B) (k0_pay102 A B) (k0_pay103 A B)
      (k0_pay104 A B) (k0_pay105 A B) (k0_pay106 A B) (k0_pay107 A B) (k0_pay108 A B) (k0_pay109 A B)
      (k0_pay110 A B) (k0_pay111 A B) (k0_pay112 A B) (k0_pay113 A B) (k0_pay114 A B) (k0_pay115 A B)
      (k0_pay116 A B) (k0_pay117 A B) (k0_pay119 B (k0_pay118 A)) (k0_pay120 A B) (k0_pay121 A B) (k0_pay122 A
      B) (k0_pay123 A B) (k0_pay124 A B) (k0_pay125 A B) (k0_pay126 A B) (k0_pay127 A B) (k0_pay128 A B)
      (k0_pay129 A B) (k0_pay130 A B) (k0_pay131 A B) (k0_pay132 A B) (k0_pay133 A B) (k0_pay134 A B)
      (k0_pay135 A B) (k0_pay136 A B) (k0_pay137 A B) (k0_pay138 A B) (k0_pay139 A)) (k0_pay141 A B W
      (k0_pay11 v83 v87 v88 v89) (k0_pay12 v83 v87 v88 v89) (k0_pay14 B (k0_pay13 v83 v87 v88 v89)) (k0_pay15
      A B) (k0_pay16 A B) (k0_pay17 A B) (k0_pay18 A B) (k0_pay19 A B) (k0_pay20 A B) (k0_pay21 A B) (k0_pay22
      A B) (k0_pay23 A B) (k0_pay24 A B) (k0_pay25 A B) (k0_pay26 A B) (k0_pay27 A B) (k0_pay28 A B) (k0_pay29
      A B) (k0_pay30 A B) (k0_pay31 A B) (k0_pay32 A B) (k0_pay33 A B) (k0_pay35 B (k0_pay34 A)) (k0_pay36 A
      B) (k0_pay37 A B) (k0_pay38 A B) (k0_pay39 A B) (k0_pay40 A B) (k0_pay41 A B) (k0_pay42 A B) (k0_pay43 A
      B) (k0_pay44 A B) (k0_pay45 A B) (k0_pay46 A B) (k0_pay47 A B) (k0_pay48 A B) (k0_pay49 A B) (k0_pay50 A
      B) (k0_pay51 A B) (k0_pay52 A B) (k0_pay53 A B) (k0_pay54 A B) (k0_pay56 B (k0_pay55 A)) (k0_pay57 A B)
      (k0_pay58 A B) (k0_pay59 A B) (k0_pay60 A B) (k0_pay61 A B) (k0_pay62 A B) (k0_pay63 A B) (k0_pay64 A B)
      (k0_pay65 A B) (k0_pay66 A B) (k0_pay67 A B) (k0_pay68 A B) (k0_pay69 A B) (k0_pay70 A B) (k0_pay71 A B)
      (k0_pay72 A B) (k0_pay73 A B) (k0_pay74 A B) (k0_pay75 A B) (k0_pay77 B (k0_pay76 A)) (k0_pay78 A B)
      (k0_pay79 A B) (k0_pay80 A B) (k0_pay81 A B) (k0_pay82 A B) (k0_pay83 A B) (k0_pay84 A B) (k0_pay85 A B)
      (k0_pay86 A B) (k0_pay87 A B) (k0_pay88 A B) (k0_pay89 A B) (k0_pay90 A B) (k0_pay91 A B) (k0_pay92 A B)
      (k0_pay93 A B) (k0_pay94 A B) (k0_pay95 A B) (k0_pay96 A B) (k0_pay98 B (k0_pay97 A)) (k0_pay99 A B)
      (k0_pay100 A B) (k0_pay101 A B) (k0_pay102 A B) (k0_pay103 A B) (k0_pay104 A B) (k0_pay105 A B)
      (k0_pay106 A B) (k0_pay107 A B) (k0_pay108 A B) (k0_pay109 A B) (k0_pay110 A B) (k0_pay111 A B)
      (k0_pay112 A B) (k0_pay113 A B) (k0_pay114 A B) (k0_pay115 A B) (k0_pay116 A B) (k0_pay117 A B)
      (k0_pay119 B (k0_pay118 A)) (k0_pay120 A B) (k0_pay121 A B) (k0_pay122 A B) (k0_pay123 A B) (k0_pay124 A
      B) (k0_pay125 A B) (k0_pay126 A B) (k0_pay127 A B) (k0_pay128 A B) (k0_pay129 A B) (k0_pay130 A B)
      (k0_pay131 A B) (k0_pay132 A B) (k0_pay133 A B) (k0_pay134 A B) (k0_pay135 A B) (k0_pay136 A B)
      (k0_pay137 A B) (k0_pay138 A B) (k0_pay139 A)) (k0_pay142 A B W (k0_pay11 v83 v87 v88 v89) (k0_pay12 v83
      v87 v88 v89) (k0_pay14 B (k0_pay13 v83 v87 v88 v89)) (k0_pay15 A B) (k0_pay16 A B) (k0_pay17 A B)
      (k0_pay18 A B) (k0_pay19 A B) (k0_pay20 A B) (k0_pay21 A B) (k0_pay22 A B) (k0_pay23 A B) (k0_pay24 A B)
      (k0_pay25 A B) (k0_pay26 A B) (k0_pay27 A B) (k0_pay28 A B) (k0_pay29 A B) (k0_pay30 A B) (k0_pay31 A B)
      (k0_pay32 A B) (k0_pay33 A B) (k0_pay35 B (k0_pay34 A)) (k0_pay36 A B) (k0_pay37 A B) (k0_pay38 A B)
      (k0_pay39 A B) (k0_pay40 A B) (k0_pay41 A B) (k0_pay42 A B) (k0_pay43 A B) (k0_pay44 A B) (k0_pay45 A B)
      (k0_pay46 A B) (k0_pay47 A B) (k0_pay48 A B) (k0_pay49 A B) (k0_pay50 A B) (k0_pay51 A B) (k0_pay52 A B)
      (k0_pay53 A B) (k0_pay54 A B) (k0_pay56 B (k0_pay55 A)) (k0_pay57 A B) (k0_pay58 A B) (k0_pay59 A B)
      (k0_pay60 A B) (k0_pay61 A B) (k0_pay62 A B) (k0_pay63 A B) (k0_pay64 A B) (k0_pay65 A B) (k0_pay66 A B)
      (k0_pay67 A B) (k0_pay68 A B) (k0_pay69 A B) (k0_pay70 A B) (k0_pay71 A B) (k0_pay72 A B) (k0_pay73 A B)
      (k0_pay74 A B) (k0_pay75 A B) (k0_pay77 B (k0_pay76 A)) (k0_pay78 A B) (k0_pay79 A B) (k0_pay80 A B)
      (k0_pay81 A B) (k0_pay82 A B) (k0_pay83 A B) (k0_pay84 A B) (k0_pay85 A B) (k0_pay86 A B) (k0_pay87 A B)
      (k0_pay88 A B) (k0_pay89 A B) (k0_pay90 A B) (k0_pay91 A B) (k0_pay92 A B) (k0_pay93 A B) (k0_pay94 A B)
      (k0_pay95 A B) (k0_pay96 A B) (k0_pay98 B (k0_pay97 A)) (k0_pay99 A B) (k0_pay100 A B) (k0_pay101 A B)
      (k0_pay102 A B) (k0_pay103 A B) (k0_pay104 A B) (k0_pay105 A B) (k0_pay106 A B) (k0_pay107 A B)
      (k0_pay108 A B) (k0_pay109 A B) (k0_pay110 A B) (k0_pay111 A B) (k0_pay112 A B) (k0_pay113 A B)
      (k0_pay114 A B) (k0_pay115 A B) (k0_pay116 A B) (k0_pay117 A B) (k0_pay119 B (k0_pay118 A)) (k0_pay120 A
      B) (k0_pay121 A B) (k0_pay122 A B) (k0_pay123 A B) (k0_pay124 A B) (k0_pay125 A B) (k0_pay126 A B)
      (k0_pay127 A B) (k0_pay128 A B) (k0_pay129 A B) (k0_pay130 A B) (k0_pay131 A B) (k0_pay132 A B)
      (k0_pay133 A B) (k0_pay134 A B) (k0_pay135 A B) (k0_pay136 A B) (k0_pay137 A B) (k0_pay138 A B)
      (k0_pay139 A)) g) be = normed (prod A B W) g be := by
  subst hA hB
  rfl

end Cert.KPay

end
-- ==== Proof.Norm.lean ====
module

public import proofs.«01_k».proof.Proof.Spec

@[expose] public section

noncomputable section

namespace Cert.Spec

open Idealize.ShloMosaic

/-- The mean of 256 values. -/
def mean (v : Fin 256 → EReal) : EReal := Ideal.div (∑ x, v x) (Ideal.ofBits .f32 0x43800000#32)

/-- The variance of 256 values. -/
def var (v : Fin 256 → EReal) : EReal :=
  Ideal.div (∑ x, (v x - mean v) * (v x - mean v)) (Ideal.ofBits .f32 0x43800000#32)

/-- A value centred, divided by the deviation of its row, weighed and shifted. -/
def lnorm (v : Fin 256 → EReal) (g b : EReal) (d : Fin 256) : EReal :=
  Ideal.div (v d - mean v) (Ideal.sqrt (var v + Ideal.ofBits .f32 0x3727C5AC#32)) * g + b

/-- The value of a patch of sixteen points under one row of weights. -/
def lin (S : Nat → EReal) (w : Fin 16 → EReal) (b : EReal) (p : Nat) : EReal := ∑ x : Fin 16, S (p * 16 + x.val) * w x + b

/-- The first difference of a spectrum. -/
def d1 (S : Nat → EReal) (j : Nat) : EReal := S (j + 1) - S j

/-- The second difference of a spectrum. -/
def d2 (S : Nat → EReal) (j : Nat) : EReal := d1 S (j + 1) - d1 S j

/-- Where a spectrum is zero past its last point, so is its first difference. -/
theorem d1_past {S : Nat → EReal} (h : ∀ j, 2151 ≤ j → S j = 0) (j : Nat) (hj : 2151 ≤ j) : d1 S j = 0 := by
  unfold d1
  rw [h _ hj, h _ (by omega), sub_zero]

/-! ## Centring and scaling -/

/-- A square is not negative. -/
theorem square_nonneg (x : EReal) : 0 ≤ x * x := by
  induction x with
  | bot => simp
  | top => simp
  | coe r =>
    rw [← EReal.coe_mul]
    exact_mod_cast mul_self_nonneg r

/-- The divisor of the means denotes 256. -/
theorem count_word : Ideal.ofBits .f32 0x43800000#32 = ((256 : ℝ) : EReal) := by
  simp [Ideal.ofBits, Ideal.ieee]
  rw [← EReal.coe_mul]
  exact congrArg _ (by norm_num)

/-- What is added to the variance is positive. -/
theorem eps_pos : (0 : EReal) < Ideal.ofBits .f32 0x3727C5AC#32 := by
  simp [Ideal.ofBits, Ideal.ieee]
  rw [← EReal.coe_mul]
  exact_mod_cast (by norm_num : (0 : ℝ) < 10995116 * (2 ^ 40)⁻¹)

/-- The mean of values that are not negative is not negative. -/
theorem div_count_nonneg {x : EReal} (h : 0 ≤ x) : 0 ≤ Ideal.div x (Ideal.ofBits .f32 0x43800000#32) := by
  rw [count_word]
  unfold Ideal.div
  rw [if_neg (by norm_num)]
  refine mul_nonneg h ?_
  rw [← EReal.coe_inv]
  exact_mod_cast (by norm_num : (0 : ℝ) ≤ (256 : ℝ)⁻¹)

/-- What the deviation is taken of is positive. -/
theorem var_pos (v : Fin 256 → EReal) : 0 < var v + Ideal.ofBits .f32 0x3727C5AC#32 :=
  lt_of_lt_of_le eps_pos (le_add_of_nonneg_left (div_count_nonneg (Finset.sum_nonneg fun _ _ => square_nonneg _)))

/-- Multiplying by the inverse root is dividing by the root, where the value is positive. -/
theorem mul_rsqrt (d x : EReal) (h : 0 < x) : d * Ideal.rsqrt x = Ideal.div d (Ideal.sqrt x) := by
  induction x with
  | bot => exact absurd h (by simp)
  | top =>
    show d * 0 = if (⊤ : EReal) = 0 then _ else d * (⊤ : EReal)⁻¹
    rw [if_neg (by simp), EReal.inv_top]
  | coe r =>
    have hr : 0 < r := by exact_mod_cast h
    have hs : Real.sqrt r ≠ 0 := (Real.sqrt_pos.2 hr).ne'
    have e1 : Ideal.rsqrt ((r : ℝ) : EReal) = (((Real.sqrt r)⁻¹ : ℝ) : EReal) := by
      show (if r < 0 then (⊥ : EReal) else if r = 0 then ⊤ else (((Real.sqrt r)⁻¹ : ℝ) : EReal)) = _
      rw [if_neg hr.not_gt, if_neg hr.ne']
    have e2 : Ideal.sqrt ((r : ℝ) : EReal) = ((Real.sqrt r : ℝ) : EReal) := by
      show (if r < 0 then (⊥ : EReal) else ((Real.sqrt r : ℝ) : EReal)) = _
      rw [if_neg hr.not_gt]
    rw [e1, e2]
    unfold Ideal.div
    rw [if_neg (by exact_mod_cast hs), EReal.coe_inv]

/-- The normalized value written with the inverse root. -/
theorem lnorm_of_rsqrt (v : Fin 256 → EReal) (g b : EReal) (d : Fin 256) :
    (v d - mean v) * Ideal.rsqrt (var v + Ideal.ofBits .f32 0x3727C5AC#32) * g + b = lnorm v g b d := by
  unfold lnorm
  rw [mul_rsqrt _ _ (var_pos v)]

/-- Whether a patch of sixteen points holds a zero, as a bit. -/
def hole (S : Nat → EReal) (p : Nat) : BitVec 1 :=
  (Finset.univ : Finset (Fin 16)).fold IntOp.ori 0#1 fun x => BitVec.ofBool (decide (S (p * 16 + x.val) = 0))

/-- A patch holds a zero exactly where one of its points is one. -/
theorem hole_eq (S : Nat → EReal) (p : Nat) : hole S p = if ∃ x : Fin 16, S (p * 16 + x.val) = 0 then 1#1 else 0#1 := by
  have key : ∀ T : Finset (Fin 16), T.fold IntOp.ori 0#1 (fun x => BitVec.ofBool (decide (S (p * 16 + x.val) = 0)))
      = if ∃ x ∈ T, S (p * 16 + x.val) = 0 then 1#1 else 0#1 := by
    intro T
    induction T using Finset.induction_on with
    | empty => simp
    | insert a T ha ih =>
      rw [Finset.fold_insert ha, ih]
      by_cases h1 : S (p * 16 + a.val) = 0 <;> by_cases h2 : ∃ x ∈ T, S (p * 16 + x.val) = 0 <;>
        simp [h1, h2, IntOp.ori]
  unfold hole
  rw [key]
  simp

/-! ## The weights folded into one table -/

/-- Real numbers from extended ones that are real. -/
theorem IsReal.choose_fun {ι : Type} {f : ι → EReal} (h : ∀ i, IsReal (f i)) : ∃ g : ι → ℝ, f = fun i => (g i : EReal) :=
  ⟨fun i => (h i).choose, funext fun i => (h i).choose_spec⟩

/-- A row of eighteen weights that holds sixteen of them from place `o` on. -/
def laid (o : Nat) (w : Fin 16 → EReal) (k : Fin 18) : EReal :=
  if h : o ≤ k.val ∧ k.val < o + 16 then w ⟨k.val - o, by omega⟩ else 0

/-- The folded weights of the points themselves. -/
def fold0 (w : Fin 16 → EReal) (k : Fin 18) : EReal := laid 0 w k

/-- The folded weights of the first differences. -/
def fold1 (w : Fin 16 → EReal) (k : Fin 18) : EReal := laid 1 w k - laid 0 w k

/-- The folded weights of the second differences. -/
def fold2 (w : Fin 16 → EReal) (k : Fin 18) : EReal := (laid 2 w k - 2 * laid 1 w k) + laid 0 w k

/-- Eighteen points under the sixteen weights laid from place `o` on. -/
theorem sum_laid (S : Nat → ℝ) (w : Fin 16 → ℝ) (o : Nat) (ho : o ≤ 2) :
    (∑ k : Fin 18, S k.val * (if h : o ≤ k.val ∧ k.val < o + 16 then w ⟨k.val - o, by omega⟩ else 0))
      = ∑ x : Fin 16, S (x.val + o) * w x := by
  interval_cases o <;> simp [Fin.sum_univ_succ]

/-- A sum of real numbers is the same sum among the extended reals. -/
theorem coe_sum {ι : Type} (T : Finset ι) (f : ι → ℝ) : ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

/-- Real weights laid from a place on are real weights or zero. -/
theorem laid_coe (o : Nat) (w : Fin 16 → ℝ) (k : Fin 18) : laid o (fun x => (w x : EReal)) k
    = ((if h : o ≤ k.val ∧ k.val < o + 16 then w ⟨k.val - o, by omega⟩ else 0 : ℝ) : EReal) := by
  unfold laid
  split <;> rfl

/-- The folded weights give the patch of the spectrum. -/
theorem sum_fold0 {S : Nat → EReal} (hS : ∀ j, IsReal (S j)) {w : Fin 16 → EReal} (hw : ∀ x, IsReal (w x)) (b : EReal) (p : Nat) :
    ∑ k : Fin 18, S (16 * p + k.val) * fold0 w k + b = lin S w b p := by
  obtain ⟨T, rfl⟩ := IsReal.choose_fun hS
  obtain ⟨u, rfl⟩ := IsReal.choose_fun hw
  have h0 := sum_laid (fun j => T (16 * p + j)) u 0 (by decide)
  unfold lin
  refine congrArg (· + b) ?_
  simp only [fold0, laid_coe, ← EReal.coe_mul, ← coe_sum]
  rw [h0]
  simp only [add_zero, mul_comm 16 p]

/-- The folded weights give the patch of the first differences. -/
theorem sum_fold1 {S : Nat → EReal} (hS : ∀ j, IsReal (S j)) {w : Fin 16 → EReal} (hw : ∀ x, IsReal (w x)) (b : EReal) (p : Nat) :
    ∑ k : Fin 18, S (16 * p + k.val) * fold1 w k + b = lin (d1 S) w b p := by
  obtain ⟨T, rfl⟩ := IsReal.choose_fun hS
  obtain ⟨u, rfl⟩ := IsReal.choose_fun hw
  have h0 := sum_laid (fun j => T (16 * p + j)) u 0 (by decide)
  have h1 := sum_laid (fun j => T (16 * p + j)) u 1 (by decide)
  unfold lin d1
  refine congrArg (· + b) ?_
  simp only [fold1, laid_coe, ← EReal.coe_mul, ← EReal.coe_sub, ← coe_sum, mul_sub, Finset.sum_sub_distrib]
  rw [h0, h1]
  simp only [add_zero, mul_comm 16 p, sub_mul, Finset.sum_sub_distrib, add_assoc]

/-- The folded weights give the patch of the second differences. -/
theorem sum_fold2 {S : Nat → EReal} (hS : ∀ j, IsReal (S j)) {w : Fin 16 → EReal} (hw : ∀ x, IsReal (w x)) (b : EReal) (p : Nat) :
    ∑ k : Fin 18, S (16 * p + k.val) * fold2 w k + b = lin (d2 S) w b p := by
  obtain ⟨T, rfl⟩ := IsReal.choose_fun hS
  obtain ⟨u, rfl⟩ := IsReal.choose_fun hw
  have h0 := sum_laid (fun j => T (16 * p + j)) u 0 (by decide)
  have h1 := sum_laid (fun j => T (16 * p + j)) u 1 (by decide)
  have h2 := sum_laid (fun j => T (16 * p + j)) u 2 (by decide)
  have two : (2 : EReal) = ((2 : ℝ) : EReal) := rfl
  unfold lin d2 d1
  refine congrArg (· + b) ?_
  simp only [fold2, two, laid_coe, ← EReal.coe_mul, ← EReal.coe_sub, ← EReal.coe_add, ← coe_sum, mul_sub, mul_add,
    mul_left_comm _ (2 : ℝ), Finset.sum_sub_distrib, Finset.sum_add_distrib, ← Finset.mul_sum]
  rw [h0, h1, h2]
  refine congrArg _ ?_
  rw [Finset.mul_sum, ← Finset.sum_sub_distrib, ← Finset.sum_add_distrib]
  refine Finset.sum_congr rfl fun x _ => ?_
  simp only [add_zero, mul_comm 16 p, add_assoc, Nat.reduceAdd]
  ring

end Cert.Spec

end
-- ==== Proof.KPay.lean ====
module

public import Idealize.ShloMosaic.Lib.IdealHost
public import proofs.«01_k».proof.Proof.KProd
public import proofs.«01_k».proof.Proof.Grid
public import proofs.«01_k».proof.Proof.Norm

@[expose] public section

set_option maxRecDepth 16384

noncomputable section

namespace Cert.KPay

open Idealize.ShloMosaic Idealize.SL.Sem Cert.KernelIdeal Cert.KernelIdeal.Gen Cert.Spec

/-! ## The smoothed spectrum in the body -/

/-- The body's centred filter. -/
def inner (v0 : Vec Ideal S16x2151 .f32) : FVec Ideal S16x2131 .f32 :=
  k0_pay4 v0 (k0_pay2 v0) (k0_pay3 v0) (Scalar.ofBits .f32 0x3DD8EAFF#32)

/-- At an inner point the body's centred filter is the centred smoothing of the row. -/
theorem inner_at (v0 : Vec Ideal S16x2151 .f32) (X : Fin 2151 → EReal) (r : Fin 16) (h0 : ∀ t, v0 (ix2 r t) = X t)
    (t : Fin 2131) : inner v0 (ix2 r t) = conv X t := by
  rw [conv_eq]
  simp only [← h0]
  pointwise [inner, k0_pay4, k0_pay2, k0_pay3]

/-- The first ten points, from the table of the front. -/
theorem front_at (f : Vec Ideal S16x24 .f32) (T : Vec Ideal S24x16 .f32) (X : Fin 2151 → EReal) (r : Fin 16)
    (hf : ∀ k : Fin 24, f (ix2 r k) = X ⟨k.val, by omega⟩)
    (hT : ∀ (k : Fin 24) (j : Fin 16), T (ix2 k j) = Ideal.ofBits .f32 (KernelIdeal.lit0 ⟨k.val * 16 + j.val, by omega⟩))
    (j : Fin 10) : (∑ x : Fin 24, f (ix2 r x) * T (ix2 x ⟨j.val, by omega⟩) : EReal)
      = ∑ k : Fin 21, X ⟨k.val, by omega⟩ * Ideal.ofBits .f32 (ReferenceIdeal.lit0 ⟨j.val * 21 + k.val, by omega⟩) := by
  have e : ∀ x : Fin 24, T (ix2 x ⟨j.val, by omega⟩) = Ideal.ofBits .f32
      (if h : x.val < 21 then ReferenceIdeal.lit0 ⟨j.val * 21 + x.val, by omega⟩ else 0x00000000#32) := fun x => by
    rw [hT, ← Words.front_word x j]
  refine (Fin.sum_univ_add (a := 21) (b := 3) fun x => (f (ix2 r x) * T (ix2 x ⟨j.val, by omega⟩) : EReal)).trans ?_
  rw [Finset.sum_eq_zero (s := Finset.univ) (f := fun x : Fin 3 => _) fun x _ => ?_, add_zero]
  · refine Finset.sum_congr rfl fun k _ => ?_
    rw [hf, e, dif_pos (by simp)]
    rfl
  · rw [e, dif_neg (by simp), Ideal.ofBits_zero_f32]
    exact mul_zero _

/-- The last ten points, from the table of the back. -/
theorem back_at (f : Vec Ideal S16x24 .f32) (T : Vec Ideal S24x16 .f32) (X : Fin 2151 → EReal) (r : Fin 16)
    (hf : ∀ k : Fin 24, f (ix2 r k) = X ⟨2127 + k.val, by omega⟩)
    (hT : ∀ (k : Fin 24) (j : Fin 16), T (ix2 k j) = Ideal.ofBits .f32 (KernelIdeal.lit1 ⟨k.val * 16 + j.val, by omega⟩))
    (j : Fin 10) : (∑ x : Fin 24, f (ix2 r x) * T (ix2 x ⟨j.val, by omega⟩) : EReal)
      = ∑ k : Fin 21, X ⟨2130 + k.val, by omega⟩ * Ideal.ofBits .f32 (ReferenceIdeal.lit1 ⟨j.val * 21 + k.val, by omega⟩) := by
  have e : ∀ x : Fin 24, T (ix2 x ⟨j.val, by omega⟩) = Ideal.ofBits .f32
      (if h : 3 ≤ x.val then ReferenceIdeal.lit1 ⟨j.val * 21 + (x.val - 3), by omega⟩ else 0x00000000#32) := fun x => by
    rw [hT, ← Words.back_word x j]
  refine (Fin.sum_univ_add (a := 3) (b := 21) fun x => (f (ix2 r x) * T (ix2 x ⟨j.val, by omega⟩) : EReal)).trans ?_
  rw [Finset.sum_eq_zero (s := Finset.univ) (f := fun x : Fin 3 => _) fun x _ => ?_, zero_add]
  · refine Finset.sum_congr rfl fun k _ => ?_
    rw [hf, e, dif_pos (by simp)]
    have h1 : 2127 + (Fin.natAdd 3 k).val = 2130 + k.val := by simp only [Fin.val_natAdd]; omega
    have h2 : j.val * 21 + ((Fin.natAdd 3 k).val - 3) = j.val * 21 + k.val := by simp only [Fin.val_natAdd]; omega
    simp only [h1, h2]
  · rw [e, dif_neg (by simp), Ideal.ofBits_zero_f32]
    exact mul_zero _

/-- The body's smoothed row. -/
theorem pay6_at (v0 : Vec Ideal S16x2151 .f32) (f bk : Vec Ideal S16x24 .f32) (T1 T2 : Vec Ideal S24x16 .f32)
    (X : Fin 2151 → EReal) (r : Fin 16) (h0 : ∀ t, v0 (ix2 r t) = X t)
    (hf : ∀ k : Fin 24, f (ix2 r k) = X ⟨k.val, by omega⟩)
    (hT1 : ∀ (k : Fin 24) (j : Fin 16), T1 (ix2 k j) = Ideal.ofBits .f32 (KernelIdeal.lit0 ⟨k.val * 16 + j.val, by omega⟩))
    (hb : ∀ k : Fin 24, bk (ix2 r k) = X ⟨2127 + k.val, by omega⟩)
    (hT2 : ∀ (k : Fin 24) (j : Fin 16), T2 (ix2 k j) = Ideal.ofBits .f32 (KernelIdeal.lit1 ⟨k.val * 16 + j.val, by omega⟩))
    (j : Fin 2176) : k0_pay6 (inner v0) (k0_pay5 f T1) bk T2 (ix2 r j) = sg X j.val := by
  have hi := inner_at v0 X r h0
  generalize inner v0 = A at hi
  unfold sg
  pointwise [k0_pay6, k0_pay5]
  by_cases h1 : j.val < 10
  · rw [dif_pos h1, dif_pos h1]
    exact front_at f T1 X r hf hT1 ⟨j.val, h1⟩
  rw [dif_neg h1, dif_neg h1]
  by_cases h2 : j.val - 10 < 2131
  · rw [dif_pos h2, dif_pos h2]
    exact hi _
  rw [dif_neg h2, dif_neg h2]
  by_cases h3 : j.val - 10 - 2131 < 10
  · rw [dif_pos h3, dif_pos h3]
    exact back_at bk T2 X r hb hT2 ⟨j.val - 10 - 2131, h3⟩
  · rw [dif_neg h3, dif_neg h3]

/-- The high part of the smoothed row is the smoothed row itself: over the reals a cast changes nothing. -/
theorem pay8_at (v83 : FVec Ideal S16x2131 .f32) (v87 : FVec Ideal S16x10 .f32) (f : Vec Ideal S16x24 .f32)
    (T : Vec Ideal S24x16 .f32) (r : Fin 16) (j : Fin 2176) (z : EReal) (h : k0_pay6 v83 v87 f T (ix2 r j) = z) :
    k0_pay8 v83 v87 f T (ix2 r j) = z := h

/-- The low part of the smoothed row is each value less itself. -/
theorem pay9_at (v83 : FVec Ideal S16x2131 .f32) (v87 : FVec Ideal S16x10 .f32) (f : Vec Ideal S16x24 .f32)
    (T : Vec Ideal S24x16 .f32) (r : Fin 16) (j : Fin 2176) (z : EReal) (h : k0_pay6 v83 v87 f T (ix2 r j) = z) :
    k0_pay9 v83 v87 f T (ix2 r j) = z - z := by
  subst h
  unfold k0_pay9 k0_pay8
  generalize k0_pay6 v83 v87 f T = A
  pointwise

/-! ## The mask in the body -/

/-- A condition cast to a number is one where it holds and zero elsewhere. -/
theorem bit_value (P : Prop) [Decidable P] :
    (FloatOps.sitofp .f32 (BitVec.setWidth 32 (BitVec.ofBool (decide P))) : Ideal .f32) = (if P then 1 else 0 : EReal) := by
  by_cases h : P <;> simp [h, FloatOps.sitofp]

/-- The word that the counts are compared with denotes one half. -/
theorem half_word : Ideal.ofBits .f32 0x3F000000#32 = ((2⁻¹ : ℝ) : EReal) := by
  simp [Ideal.ofBits, Ideal.ieee]
  rw [← EReal.coe_mul]
  exact congrArg _ (by norm_num)

/-- The counted zeros of a patch pass one half exactly where the patch holds a zero. -/
theorem counted (S : Nat → EReal) (p : Fin 135) :
    Ideal.ofBits .f32 0x3F000000#32 < (∑ x : Fin 2160, (if S x.val = 0 then 1 else 0) * (if x.val / 16 = p.val then 1 else 0) : EReal)
      ↔ ∃ x : Fin 16, S (p.val * 16 + x.val) = 0 := by
  rw [half_word]
  constructor
  · intro h
    by_contra hn
    rw [Finset.sum_eq_zero] at h
    · exact absurd h (not_lt.2 (by exact_mod_cast (by norm_num : (0 : ℝ) ≤ 2⁻¹)))
    · intro x _
      by_cases hp : x.val / 16 = p.val
      · have : S x.val ≠ 0 := fun h0 => hn ⟨⟨x.val % 16, by omega⟩, by
          have e : p.val * 16 + x.val % 16 = x.val := by omega
          simpa only [e] using h0⟩
        rw [if_neg this, zero_mul]
      · rw [if_neg hp, mul_zero]
  · rintro ⟨x, hx⟩
    have hq : p.val * 16 + x.val < 2160 := by omega
    refine lt_of_lt_of_le (b := (1 : EReal)) (by exact_mod_cast (by norm_num : (2⁻¹ : ℝ) < 1)) ?_
    refine le_trans (le_of_eq ?_) (Finset.single_le_sum
      (f := fun x : Fin 2160 => ((if S x.val = 0 then 1 else 0) * (if x.val / 16 = p.val then 1 else 0) : EReal))
      (fun y _ => ?_) (Finset.mem_univ (⟨p.val * 16 + x.val, hq⟩ : Fin 2160)))
    · show (1 : EReal) = (if S (p.val * 16 + x.val) = 0 then 1 else 0) * (if (p.val * 16 + x.val) / 16 = p.val then 1 else 0)
      rw [if_pos hx, if_pos (by omega), mul_one]
    · split <;> split <;> simp

/-- The body's mask of a patch. -/
theorem pay7_at (v83 : FVec Ideal S16x2131 .f32) (v87 : FVec Ideal S16x10 .f32) (f : Vec Ideal S16x24 .f32)
    (T : Vec Ideal S24x16 .f32) (P : FVec Ideal S2160x135 .bf16) (S : Nat → EReal) (r : Fin 16)
    (hS : ∀ j : Fin 2176, k0_pay6 v83 v87 f T (ix2 r j) = S j.val)
    (hP : ∀ (x : Fin 2160) (p : Fin 135), P (ix2 x p) = (if x.val / 16 = p.val then 1 else 0 : EReal))
    (p : Fin 135) : k0_pay7 v83 v87 f T P (ix2 r p) = (if ∃ x : Fin 16, S (p.val * 16 + x.val) = 0 then 1 else 0 : EReal) := by
  unfold k0_pay7
  generalize k0_pay6 v83 v87 f T = A at hS ⊢
  pointwise
  rw [bit_value]
  refine if_congr (Iff.trans ?_ (counted S p)) rfl rfl
  refine iff_of_eq (congrArg (_ < ·) (Finset.sum_congr rfl fun x _ => ?_))
  rw [bit_value, hP]
  refine congrArg (· * _) ?_
  rw [hS ⟨x.val, by omega⟩]

/-! ## The product in the body -/

/-- The weights of the body: the high part, the low part, the high part, and the bias in both parts. -/
theorem pay10_at (w : Vec Ideal S24x768 .f32) (b : Vec Ideal S1x768 .f32) (q : Fin 56) (c : Fin 768) :
    k0_pay10 w b (ix2 q c) = (if h : q.val < 18 then w (ix2 ⟨q.val, by omega⟩ c)
      else if h : q.val - 18 < 18 then w (ix2 ⟨q.val - 18, by omega⟩ c) - w (ix2 ⟨q.val - 18, by omega⟩ c)
      else if h : q.val - 18 - 18 < 18 then w (ix2 ⟨q.val - 18 - 18, by omega⟩ c)
      else if h : q.val - 18 - 18 - 18 < 1 then b (ix2 0 c) else b (ix2 0 c) - b (ix2 0 c) : EReal) := by
  have e : ∀ x : Fin 1, x = 0 := fun x => Subsingleton.elim _ _
  pointwise [k0_pay10]
  simp only [e]

/-- A patch of the stack. -/
theorem piece_at (A B : FVec Ideal S16x2176 .bf16) (p : Fin 135) (r : Fin 16) (k : Fin 54) :
    piece A B p (ix2 r k) = (if h : k.val < 18 then A (ix2 r ⟨16 * p.val + k.val, by omega⟩)
      else if h : k.val - 18 < 18 then A (ix2 r ⟨16 * p.val + (k.val - 18), by omega⟩)
      else B (ix2 r ⟨16 * p.val + (k.val - 18 - 18), by omega⟩) : EReal) := by
  pointwise [piece]

/-- The stack reads its patches one after another. -/
theorem stacked_at (A B : FVec Ideal S16x2176 .bf16) (p : Fin 135) (r : Fin 16) (k : Fin 54) :
    stacked A B (ix2 ⟨p.val * 16 + r.val, by omega⟩ k) = piece A B p (ix2 r k) := by
  have hp := p.isLt
  have hr := r.isLt
  unfold stacked
  refine concatenate_ofFn_apply (t := S2160x54) (s₁ := S16x54) 0 (fun p => piece A B p) _ rfl 16 rfl (ix2 ⟨p.val * 16 + r.val, by omega⟩ k) p ?_ (ix2 r k) ?_ ?_
  · show (p.val * 16 + r.val) / 16 = p.val
    omega
  · show r.val = (p.val * 16 + r.val) % 16
    omega
  · intro b hb
    fin_cases b
    · exact absurd rfl hb
    · rfl

/-- A number less itself is zero where it is real. -/
theorem IsReal.sub_self {e : EReal} (h : IsReal e) : e - e = 0 := by
  obtain ⟨r, rfl⟩ := h
  rw [← EReal.coe_sub, _root_.sub_self, EReal.coe_zero]

/-- The product at a row: the patch under the eighteen weights, and the bias. -/
theorem prod_at (A B : FVec Ideal S16x2176 .bf16) (w : Vec Ideal S24x768 .f32) (b : Vec Ideal S1x768 .f32)
    (S : Nat → EReal) (r : Fin 16) (hA : ∀ j : Fin 2176, A (ix2 r j) = S j.val)
    (hB : ∀ j : Fin 2176, B (ix2 r j) = (0 : EReal)) (c : Fin 768) (hw : ∀ k : Fin 24, IsReal (w (ix2 k c)))
    (hb : IsReal (b (ix2 0 c))) (p : Fin 135) :
    prod A B (k0_pay10 w b) (ix2 ⟨p.val * 16 + r.val, by omega⟩ c)
      = (∑ k : Fin 18, S (16 * p.val + k.val) * w (ix2 ⟨k.val, by omega⟩ c) + b (ix2 0 c) : EReal) := by
  have hW := fun q => pay10_at w b q c
  have hX := fun k => (stacked_at A B p r k).trans (piece_at A B p r k)
  unfold prod
  generalize k0_pay10 w b = W at hW
  generalize stacked A B = X at hX
  have tail : ∀ k : Fin 54, 18 ≤ k.val →
      (X (ix2 ⟨p.val * 16 + r.val, by omega⟩ k) * W (ix2 ⟨k.val, by omega⟩ c) : EReal) = 0 := by
    intro k hk
    rw [hX, hW]
    by_cases h : k.val - 18 < 18
    · simp only [show ¬ k.val < 18 by omega, h, dite_true, dite_false]
      rw [IsReal.sub_self (hw _)]
      exact mul_zero _
    · simp only [show ¬ k.val < 18 by omega, h, dite_false, hB]
      exact zero_mul _
  pointwise
  refine congrArg₂ (· + ·) ?_ ?_
  · refine (Fin.sum_univ_add (a := 18) (b := 36) fun x => (X (ix2 ⟨p.val * 16 + r.val, by omega⟩ x) * W (ix2 ⟨x.val, by omega⟩ c) : EReal)).trans ?_
    rw [Finset.sum_eq_zero (s := Finset.univ) (f := fun x : Fin 36 => _) fun x _ => ?_, add_zero]
    · refine Finset.sum_congr rfl fun k _ => ?_
      rw [hX, hW, dif_pos (by simp), dif_pos (by simp), hA]
      rfl
    · exact tail (Fin.natAdd 18 x) (by simp)
  · rw [Fin.sum_univ_two, hW, hW]
    simp [IsReal.sub_self hb]

/-! ## The normalization in the body -/

/-- The body's normalized block at a place: each third of the columns is the normalization of its own 256 products. -/
theorem normed_at (M : FVec Ideal S2160x768 .f32) (g be : Vec Ideal S1x768 .f32) (p : Fin 135) (r : Fin 16) (c : Fin 768) :
    normed M g be (ix3 p r c) = (
      if h : c.val < 256 then lnorm (fun d => M (ix2 ⟨p.val * 16 + r.val, by omega⟩ ⟨d.val, by omega⟩)) (g (ix2 0 c)) (be (ix2 0 c)) ⟨c.val, h⟩
      else if h : c.val - 256 < 256 then
        lnorm (fun d => M (ix2 ⟨p.val * 16 + r.val, by omega⟩ ⟨256 + d.val, by omega⟩)) (g (ix2 0 c)) (be (ix2 0 c)) ⟨c.val - 256, h⟩
      else lnorm (fun d => M (ix2 ⟨p.val * 16 + r.val, by omega⟩ ⟨512 + d.val, by omega⟩)) (g (ix2 0 c)) (be (ix2 0 c))
        ⟨c.val - 256 - 256, by omega⟩ : EReal) := by
  pointwise [normed, k0_pay1, k0_pay143, msq, ctr]
  by_cases h1 : c.val < 256
  · simp only [h1, dite_true]
    refine Eq.trans ?_ (lnorm_of_rsqrt _ _ _ _)
    unfold var mean
    rfl
  by_cases h2 : c.val - 256 < 256
  · simp only [h1, h2, dite_true, dite_false]
    refine Eq.trans ?_ (lnorm_of_rsqrt _ _ _ _)
    unfold var mean
    rfl
  · simp only [h1, h2, dite_false]
    refine Eq.trans ?_ (lnorm_of_rsqrt _ _ _ _)
    unfold var mean
    rfl

end Cert.KPay

end
-- ==== Proof.KHost.lean ====
module

public import Idealize.ShloMosaic.Lib.Pointwise
public import proofs.«01_k».proof.Proof.KPay
public import proofs.«01_k».proof.Proof.Gen.KernelIdeal.Frame

@[expose] public section

set_option maxRecDepth 16384

noncomputable section

namespace Cert.KHost

open Idealize.ShloMosaic Idealize.SL.Sem Cert.KernelIdeal Cert.KernelIdeal.Gen Cert.Spec

/-- Three vectors of 256 laid in one row. -/
def joined (a b d : FVec Ideal S256 .f32) : FVec Ideal S1x768 .f32 :=
  shapeCast S1x768 (concatenate S768 0 [⟨S256, a⟩, ⟨S256, b⟩, ⟨S256, d⟩] concatenates_S256_S256_S256_S768_d0) shapeCasts_S768_S1x768

/-- The transposed weights, laid from the first row of a table of zeros. -/
def shifted0 (w : FVec Ideal S256x16 .f32) : FVec Ideal S24x256 .f32 :=
  pad S24x256 ![0, 0] ![8, 0] ![0, 0] (transpose S16x256 [1, 0] w transposes_S256x16_S16x256_1_0)
    (sitofp .f32 (constantI S_ 32 0#32)) pads_S16x256_S24x256_080_000 h_S_

/-- The transposed weights, laid from the second row of a table of zeros. -/
def shifted1 (w : FVec Ideal S256x16 .f32) : FVec Ideal S24x256 .f32 :=
  pad S24x256 ![1, 0] ![7, 0] ![0, 0] (transpose S16x256 [1, 0] w transposes_S256x16_S16x256_1_0)
    (sitofp .f32 (constantI S_ 32 0#32)) pads_S16x256_S24x256_170_000 h_S_

/-- The transposed weights, laid from the third row of a table of zeros. -/
def shifted2 (w : FVec Ideal S256x16 .f32) : FVec Ideal S24x256 .f32 :=
  pad S24x256 ![2, 0] ![6, 0] ![0, 0] (transpose S16x256 [1, 0] w transposes_S256x16_S16x256_1_0)
    (sitofp .f32 (constantI S_ 32 0#32)) pads_S16x256_S24x256_260_000 h_S_

/-- The table of weights of the three groups. -/
def weights (w0 w1 w2 : FVec Ideal S256x16 .f32) : FVec Ideal S24x768 .f32 :=
  concatenate S24x768 1
    [⟨S24x256, shifted0 w0⟩, ⟨S24x256, subf (shifted1 w1) (shifted0 w1)⟩,
      ⟨S24x256, addf (subf (shifted2 w2)
        (mulf (broadcastInDim S24x256 ![] bcast_S_S24x256 (constant S_ .f32 0x40000000#32)) (shifted1 w2))) (shifted0 w2)⟩]
    concatenates_S24x256_S24x256_S24x256_S24x768_d1

/-- The joined row at a column: each third reads its own vector. -/
theorem joined_at (a b d : FVec Ideal S256 .f32) (c : Fin 768) :
    joined a b d (ix2 0 c) = (if h : c.val < 256 then a (ix1 ⟨c.val, h⟩)
      else if h : c.val - 256 < 256 then b (ix1 ⟨c.val - 256, h⟩) else d (ix1 ⟨c.val - 256 - 256, by omega⟩) : EReal) := by
  pointwise [joined]

/-- The word of two. -/
theorem word_two : Ideal.ofBits .f32 1073741824#32 = 2 := by
  simp [Ideal.ofBits, Ideal.ieee]
  rw [← EReal.coe_mul]
  exact congrArg _ (by norm_num)

/-- The padding value is zero. -/
theorem pad_value (i : S_.Idx) : (sitofp .f32 (constantI S_ 32 0#32) : FVec Ideal S_ .f32) i = (0 : EReal) := by
  show ((((0#32 : BitVec 32).toInt : ℤ) : ℝ) : EReal) = 0
  simp

/-- The weights laid from the first row, read at a place. -/
theorem shifted0_at (w : FVec Ideal S256x16 .f32) (k : Fin 24) (j : Fin 256) :
    shifted0 w (ix2 k j) = (if h : 0 ≤ k.val ∧ k.val < 0 + 16 then w (ix2 j ⟨k.val - 0, by omega⟩) else 0 : EReal) := by
  unfold shifted0
  generalize hz : (sitofp .f32 (constantI S_ 32 0#32) : FVec Ideal S_ .f32) = z
  have hz' : ∀ i, z i = (0 : EReal) := fun i => hz ▸ pad_value i
  pointwise
  rw [hz']

/-- The weights laid from the second row, read at a place. -/
theorem shifted1_at (w : FVec Ideal S256x16 .f32) (k : Fin 24) (j : Fin 256) :
    shifted1 w (ix2 k j) = (if h : 1 ≤ k.val ∧ k.val < 1 + 16 then w (ix2 j ⟨k.val - 1, by omega⟩) else 0 : EReal) := by
  unfold shifted1
  generalize hz : (sitofp .f32 (constantI S_ 32 0#32) : FVec Ideal S_ .f32) = z
  have hz' : ∀ i, z i = (0 : EReal) := fun i => hz ▸ pad_value i
  pointwise
  rw [hz']
  by_cases h : 1 ≤ k.val ∧ k.val < 1 + 16
  · have h' : 1 ≤ k.val ∧ k.val - 1 < 16 := by omega
    rw [dif_pos h', dif_pos h]
  · have h' : ¬ (1 ≤ k.val ∧ k.val - 1 < 16) := by omega
    rw [dif_neg h', dif_neg h]

/-- The weights laid from the third row, read at a place. -/
theorem shifted2_at (w : FVec Ideal S256x16 .f32) (k : Fin 24) (j : Fin 256) :
    shifted2 w (ix2 k j) = (if h : 2 ≤ k.val ∧ k.val < 2 + 16 then w (ix2 j ⟨k.val - 2, by omega⟩) else 0 : EReal) := by
  unfold shifted2
  generalize hz : (sitofp .f32 (constantI S_ 32 0#32) : FVec Ideal S_ .f32) = z
  have hz' : ∀ i, z i = (0 : EReal) := fun i => hz ▸ pad_value i
  pointwise
  rw [hz']
  by_cases h : 2 ≤ k.val ∧ k.val < 2 + 16
  · have h' : 2 ≤ k.val ∧ k.val - 2 < 16 := by omega
    rw [dif_pos h', dif_pos h]
  · have h' : ¬ (2 ≤ k.val ∧ k.val - 2 < 16) := by omega
    rw [dif_neg h', dif_neg h]

/-- The table of weights at a place: each third of the columns reads its own group. -/
theorem weights_at (w0 w1 w2 : FVec Ideal S256x16 .f32) (k : Fin 24) (c : Fin 768) :
    weights w0 w1 w2 (ix2 k c) = (if h : c.val < 256 then shifted0 w0 (ix2 k ⟨c.val, h⟩)
      else if h : c.val - 256 < 256 then
        shifted1 w1 (ix2 k ⟨c.val - 256, h⟩) - shifted0 w1 (ix2 k ⟨c.val - 256, h⟩)
      else (shifted2 w2 (ix2 k ⟨c.val - 256 - 256, by omega⟩) - 2 * shifted1 w2 (ix2 k ⟨c.val - 256 - 256, by omega⟩))
        + shifted0 w2 (ix2 k ⟨c.val - 256 - 256, by omega⟩) : EReal) := by
  unfold weights
  generalize shifted0 w0 = a0
  generalize shifted0 w1 = a1
  generalize shifted0 w2 = a2
  generalize shifted1 w1 = a3
  generalize shifted1 w2 = a4
  generalize shifted2 w2 = a5
  pointwise
  rw [word_two]

/-- The table of weights at a place of its first eighteen rows, in the terms of the folded weights. -/
theorem weights_fold (w0 w1 w2 : FVec Ideal S256x16 .f32) (k : Fin 18) (c : Fin 768) :
    weights w0 w1 w2 (ix2 ⟨k.val, by omega⟩ c) = (if h : c.val < 256 then fold0 (fun x => w0 (ix2 ⟨c.val, h⟩ x)) k
      else if h : c.val - 256 < 256 then fold1 (fun x => w1 (ix2 ⟨c.val - 256, h⟩ x)) k
      else fold2 (fun x => w2 (ix2 ⟨c.val - 256 - 256, by omega⟩ x)) k : EReal) := by
  rw [weights_at]
  simp only [shifted0_at, shifted1_at, shifted2_at]
  rfl

/-- A value that is zero outside a condition is real where it is real inside. -/
theorem real_dite {P : Prop} [Decidable P] {f : P → EReal} (hf : ∀ h, IsReal (f h)) : IsReal (if h : P then f h else 0) := by
  by_cases h : P
  · rw [dif_pos h]
    exact hf h
  · rw [dif_neg h]
    exact IsReal.zero

/-- The table of weights is real where the weights are. -/
theorem weights_real (w0 w1 w2 : FVec Ideal S256x16 .f32) (h0 : ∀ i j, IsReal (w0 (ix2 i j))) (h1 : ∀ i j, IsReal (w1 (ix2 i j)))
    (h2 : ∀ i j, IsReal (w2 (ix2 i j))) (k : Fin 24) (c : Fin 768) : IsReal (weights w0 w1 w2 (ix2 k c)) := by
  have two : IsReal 2 := ⟨2, rfl⟩
  have s0 (w : FVec Ideal S256x16 .f32) (h : ∀ i j, IsReal (w (ix2 i j))) (j : Fin 256) : IsReal (shifted0 w (ix2 k j)) := by
    rw [shifted0_at]
    exact real_dite fun _ => h _ _
  have s1 (w : FVec Ideal S256x16 .f32) (h : ∀ i j, IsReal (w (ix2 i j))) (j : Fin 256) : IsReal (shifted1 w (ix2 k j)) := by
    rw [shifted1_at]
    exact real_dite fun _ => h _ _
  have s2 (w : FVec Ideal S256x16 .f32) (h : ∀ i j, IsReal (w (ix2 i j))) (j : Fin 256) : IsReal (shifted2 w (ix2 k j)) := by
    rw [shifted2_at]
    exact real_dite fun _ => h _ _
  rw [weights_at]
  by_cases hc : c.val < 256
  · rw [dif_pos hc]
    exact s0 _ h0 _
  rw [dif_neg hc]
  by_cases hc' : c.val - 256 < 256
  · rw [dif_pos hc']
    exact (s1 _ h1 _).sub (s0 _ h1 _)
  · rw [dif_neg hc']
    exact ((s2 _ h2 _).sub (two.mul (s1 _ h2 _))).add (s0 _ h2 _)

/-- The joined row is real where the three vectors are. -/
theorem joined_real (a b d : FVec Ideal S256 .f32) (ha : ∀ i, IsReal (a (ix1 i))) (hb : ∀ i, IsReal (b (ix1 i)))
    (hd : ∀ i, IsReal (d (ix1 i))) (c : Fin 768) : IsReal (joined a b d (ix2 0 c)) := by
  rw [joined_at]
  by_cases hc : c.val < 256
  · rw [dif_pos hc]
    exact ha _
  rw [dif_neg hc]
  by_cases hc' : c.val - 256 < 256
  · rw [dif_pos hc']
    exact hb _
  · rw [dif_neg hc']
    exact hd _

/-- The table of ones where the row lies in the patch of the column. -/
def patches : FVec Ideal S2160x135 .bf16 :=
  truncf .bf16 (shapeCast S2160x135 (uitofp .f32 (cmpi .eq (iotaInDim S135x16x135 32 0) (iotaInDim S135x16x135 32 2)))
    shapeCasts_S135x16x135_S2160x135) bitsLt_bf16_f32

/-- The patch table at a place: one where the row lies in the patch. -/
theorem patches_at (x : Fin 2160) (p : Fin 135) : patches (ix2 x p) = (if x.val / 16 = p.val then 1 else 0 : EReal) := by
  have e : ∀ b : BitVec 1, (FloatOps.uitofp .f32 b : Ideal .f32) = (if b = 1#1 then 1 else 0 : EReal) := by
    intro b
    rcases (by decide : ∀ b : BitVec 1, b = 0#1 ∨ b = 1#1) b with rfl | rfl <;> simp [FloatOps.uitofp]
  pointwise [patches]
  rw [e]
  refine if_congr ?_ rfl rfl
  have hx : x.val / 16 < 135 := by omega
  have hp := p.isLt
  by_cases h : x.val / 16 = p.val
  · simp [h, IntOp.cmpi]
  · have hn : BitVec.ofNat 32 (x.val / 16) ≠ BitVec.ofNat 32 p.val := fun hc => h (by
      have := congrArg BitVec.toNat hc
      simp only [BitVec.toNat_ofNat] at this
      omega)
    have hb : (BitVec.ofNat 32 (x.val / 16) == BitVec.ofNat 32 p.val) = false := by
      rw [beq_eq_false_iff_ne]
      exact hn
    simp only [IntOp.cmpi, hb, h, iff_false]
    decide

/-! ## What the region finds -/

variable (m : (ℓ : Loc nD τ sig) → Buf (Elt Ideal) ℓ) (c : Dev nD)

/-- The table of weights as the region finds it. -/
theorem V_v17 : V m c main_v17 = weights (m (c, Proc.devRef .tc main_arg1)) (m (c, Proc.devRef .tc main_arg5))
    (m (c, Proc.devRef .tc main_arg9)) := by
  unfold V V0
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_results
  rfl

/-- The row of the biases as the region finds it. -/
theorem V_v19 : V m c main_v19 = joined (m (c, Proc.devRef .tc main_arg2)) (m (c, Proc.devRef .tc main_arg6))
    (m (c, Proc.devRef .tc main_arg10)) := by
  unfold V V0
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_results
  rfl

/-- The row of the scales as the region finds it. -/
theorem V_v21 : V m c main_v21 = joined (m (c, Proc.devRef .tc main_arg3)) (m (c, Proc.devRef .tc main_arg7))
    (m (c, Proc.devRef .tc main_arg11)) := by
  unfold V V0
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_results
  rfl

/-- The row of the shifts as the region finds it. -/
theorem V_v23 : V m c main_v23 = joined (m (c, Proc.devRef .tc main_arg4)) (m (c, Proc.devRef .tc main_arg8))
    (m (c, Proc.devRef .tc main_arg12)) := by
  unfold V V0
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_results
  rfl

/-- The front table as the region finds it. -/
theorem V_cst : V m c main_cst = fun i => Ideal.ofBits .f32 (lit0 (S24x16.rowMajor i)) := by
  unfold V V0
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_results
  rfl

/-- The back table as the region finds it. -/
theorem V_cst_0 : V m c main_cst_0 = fun i => Ideal.ofBits .f32 (lit1 (S24x16.rowMajor i)) := by
  unfold V V0
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_results
  rfl

/-- The patch table as the region finds it. -/
theorem V_v29 : V m c main_v29 = patches := by
  unfold V V0
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_results
  rfl

end Cert.KHost

end
-- ==== Proof.RefVal.lean ====
module

public import Idealize.ShloMosaic.Lib.Pointwise
public import Idealize.ShloMosaic.Lib.WordCmp
public import Idealize.ShloMosaic.Lib.StableHlo.Predicate
public import proofs.«01_k».proof.Proof.Gen.ReferenceIdeal.Run
public import proofs.«01_k».proof.Proof.Spec

@[expose] public section

set_option maxRecDepth 16384

noncomputable section

namespace Cert.RefVal

open Idealize.ShloMosaic Idealize.SL.Sem Cert.ReferenceIdeal Cert.ReferenceIdeal.Gen Cert.ReferenceIdeal.Value Cert.Spec

/-! ## Gathers and table places -/

/-- A column gather reads, at row `R` and place `t`, the column its start index names, read signed and clamped. -/
theorem gather_col {α : Type} (x : S1024x2151.Idx → α) (idx : IVec S2151x1 32) (R : Fin 1024) (t : Fin 2151) :
    Host.gather gather_S1024x2151_S2151x1_S1024x2151_0_1_n_n_1_1_10241 x idx (ix2 R t)
      = x (ix2 R ⟨min (idx (ix2 t 0)).toInt.toNat 2150, by omega⟩) := by
  unfold Host.gather
  refine congrArg x (funext fun a => Fin.ext ?_)
  have hs : GatherDims.siIdx gather_S1024x2151_S2151x1_S1024x2151_0_1_n_n_1_1_10241 (ix2 R t) ⟨0, by decide⟩ = ix2 t 0 := by
    funext b
    match b with
    | ⟨0, _⟩ => rfl
    | ⟨1, _⟩ => rfl
  match a with
  | ⟨0, _⟩ =>
    show 0 + 0 + R.val = R.val
    omega
  | ⟨1, _⟩ =>
    show min (idx (GatherDims.siIdx gather_S1024x2151_S2151x1_S1024x2151_0_1_n_n_1_1_10241 (ix2 R t)
      ⟨0, by decide⟩)).toInt.toNat 2150 + 0 + 0 = _
    rw [hs]
    rfl

/-- The take of a table reads the place its start index names, read signed and clamped. -/
theorem gather_tab {α : Type} (x : S2151.Idx → α) (idx : IVec S2151x1 32) (t : Fin 2151) :
    Host.gather gather_S2151_S2151x1_S2151_n_0_n_n_0_1_1 x idx (ix1 t)
      = x (ix1 ⟨min (idx (ix2 t 0)).toInt.toNat 2150, by omega⟩) := by
  unfold Host.gather
  refine congrArg x (funext fun a => Fin.ext ?_)
  have hs : GatherDims.siIdx gather_S2151_S2151x1_S2151_n_0_n_n_0_1_1 (ix1 t) ⟨0, by decide⟩ = ix2 t 0 := by
    funext b
    match b with
    | ⟨0, _⟩ => rfl
    | ⟨1, _⟩ => rfl
  match a with
  | ⟨0, _⟩ =>
    show min (idx (GatherDims.siIdx gather_S2151_S2151x1_S2151_n_0_n_n_0_1_1 (ix1 t)
      ⟨0, by decide⟩)).toInt.toNat 2150 + 0 + 0 = _
    rw [hs]
    rfl

/-- The place of an index of a vector is the index. -/
theorem place_one (t : Fin 2151) : S2151.rowMajor (ix1 t) = t := Fin.ext (Shape.rowMajor_val_one _)

/-- The place of an index of the front table. -/
theorem front_place (a : Fin 10) (b : Fin 21) :
    lit0 (S10x21.rowMajor (ix2 a b)) = lit0 ⟨a.val * 21 + b.val, by omega⟩ :=
  congrArg lit0 (Fin.ext (Shape.rowMajor_val_two _))

/-- The place of an index of the back table. -/
theorem back_place (a : Fin 10) (b : Fin 21) :
    lit1 (S10x21.rowMajor (ix2 a b)) = lit1 ⟨a.val * 21 + b.val, by omega⟩ :=
  congrArg lit1 (Fin.ext (Shape.rowMajor_val_two _))

variable (V : Valuation τ sig (Elt Ideal))

/-- Row `R` of the spectra. -/
def row (R : Fin 1024) : Fin 2151 → EReal := fun t => V (Proc.devRef .tc main_arg0) (ix2 R ⟨3 + t.val, by omega⟩)

/-- The reflectances are the spectra without their first three columns. -/
theorem v0_at (R : Fin 1024) (t : Fin 2151) : res_main_v0 V (ix2 R t) = row V R t := by
  pointwise! [res_main_v0, row]

/-- The sum of shifted products is the centred smoothing. -/
theorem v85_at (R : Fin 1024) (t : Fin 2131) : res_main_v85 V (ix2 R t) = conv (row V R) t := by
  rw [conv_eq]
  pointwise [res_main_v85]
  simp only [v0_at]

/-- The smoothed spectra. -/
theorem v92_at (R : Fin 1024) (t : Fin 2151) : res_main_v92 V (ix2 R t) = sg (row V R) t.val := by
  unfold sg
  pointwise [res_main_v92]
  simp only [v0_at, front_place, back_place, v85_at]
  split
  · rfl
  split
  · rfl
  · rw [dif_pos (by omega)]

/-! ## The resampling -/

/-- The target wavelengths are 350, 351, …. -/
theorem tw_at (t : Fin 2151) : res_main_cst_1 V (ix1 t) = (((350 + t.val : ℕ) : ℝ) : EReal) := by
  show Ideal.ofBits .f32 (lit2 (S2151.rowMajor (ix1 t))) = _
  rw [place_one]
  exact (Words.tw_word t).val

/-- The source wavelengths are 350, 351, …. -/
theorem ow_at (t : Fin 2151) : res_main_cst_2 V (ix1 t) = (((350 + t.val : ℕ) : ℝ) : EReal) := by
  show Ideal.ofBits .f32 (lit3 (S2151.rowMajor (ix1 t))) = _
  rw [place_one]
  exact (Words.ow_word t).val

/-- The order of natural numbers among the extended reals. -/
theorem coe_nat_le (a b : ℕ) : (((a : ℝ) : EReal) ≤ ((b : ℝ) : EReal)) ↔ a ≤ b := by
  rw [EReal.coe_le_coe_iff, Nat.cast_le]

/-- The strict order of natural numbers among the extended reals. -/
theorem coe_nat_lt (a b : ℕ) : (((a : ℝ) : EReal) < ((b : ℝ) : EReal)) ↔ a < b := by
  rw [EReal.coe_lt_coe_iff, Nat.cast_lt]

/-- The place the resampling reads above point `t`. -/
def up (t : ℕ) : ℕ := min 2150 (t + 1)

/-- Among the points 350, 351, … those at or below the `t`-th number `t + 1`. -/
theorem count (f : Fin 2151 → EReal) (y : EReal) (hf : ∀ x : Fin 2151, f x = (((350 + x.val : ℕ) : ℝ) : EReal))
    (t : Fin 2151) (hy : y = (((350 + t.val : ℕ) : ℝ) : EReal)) :
    Finset.fold IntOp.addi 0#32 (fun x : Fin 2151 => BitVec.setWidth 32 (BitVec.ofBool (decide (f x ≤ y)))) Finset.univ
      = BitVec.ofNat 32 (t.val + 1) := by
  have hx : ∀ x : Fin 2151, (BitVec.setWidth 32 (BitVec.ofBool (decide (f x ≤ y)))).toNat = if x ≤ t then 1 else 0 := by
    intro x
    rw [StableHlo.Predicate.toNat_setWidth_bit, hf, hy]
    have e : ((((350 + x.val : ℕ) : ℝ) : EReal) ≤ (((350 + t.val : ℕ) : ℝ) : EReal)) ↔ x ≤ t := by
      rw [coe_nat_le, Fin.le_def]; omega
    by_cases h : x ≤ t
    · rw [if_pos h, decide_eq_true (e.2 h)]; rfl
    · rw [if_neg h, decide_eq_false (fun c => h (e.1 c))]; rfl
  have hs : ∑ x : Fin 2151, (BitVec.setWidth 32 (BitVec.ofBool (decide (f x ≤ y)))).toNat = t.val + 1 := by
    rw [Finset.sum_congr rfl fun x _ => hx x, Finset.sum_boole]
    have : (Finset.univ.filter fun x : Fin 2151 => x ≤ t) = Finset.Iic t := by
      ext x; simp
    rw [this]
    simp
  apply BitVec.eq_of_toNat_eq
  rw [StableHlo.Predicate.toNat_fold_addi _ _ (by rw [hs]; omega), hs, BitVec.toNat_ofNat]
  omega

/-- The clipped count of point `t` is the place above it. -/
theorem clip : ∀ s : Fin 2151,
    IntOp.minsi 2150#32 (IntOp.maxsi 1#32 (BitVec.ofNat 32 (s.val + 1))) = BitVec.ofNat 32 (up s.val) := by
  decide +kernel

/-- Below point `t` the resampling reads the place before. -/
theorem low_place : ∀ t : Fin 2151, min (IntOp.subi (BitVec.ofNat 32 (up t.val)) 1#32).toInt.toNat 2150 = up t.val - 1 := by
  decide +kernel

/-- The place above point `t`, read from its word. -/
theorem up_place : ∀ t : Fin 2151, min (BitVec.ofNat 32 (up t.val)).toInt.toNat 2150 = up t.val := by
  decide +kernel

/-- The search finds the place above each point. -/
theorem v100_at (t : Fin 2151) : res_main_v100 V (ix1 t) = BitVec.ofNat 32 (up t.val) := by
  have h := count (fun x => res_main_cst_2 V (ix1 x)) (res_main_cst_1 V (ix1 t)) (ow_at V) t (tw_at V t)
  pointwise [res_main_v100]
  exact (congrArg (fun w => IntOp.minsi 2150#32 (IntOp.maxsi 1#32 w)) h).trans (clip t)

/-- The column of start indices holds the places above. -/
theorem up_at (t : Fin 2151) :
    broadcastInDim S2151x1 ![0] bcast_S2151_S2151x1_0 (res_main_v100 V) (ix2 t 0) = BitVec.ofNat 32 (up t.val) := by
  rw [← v100_at V t]
  pointwise

/-- The column of start indices below holds the places above, less one. -/
theorem low_at (t : Fin 2151) :
    broadcastInDim S2151x1 ![0] bcast_S2151_S2151x1_0
      (subi (res_main_v100 V) (broadcastInDim S2151 ![] bcast_S_S2151 (constantI S_ 32 1#32))) (ix2 t 0)
      = IntOp.subi (BitVec.ofNat 32 (up t.val)) 1#32 := by
  rw [← v100_at V t]
  pointwise

/-- The table of wavelengths at a place given by a number. -/
theorem ow_nat (n : ℕ) (h : n < 2151) : res_main_cst_2 V (ix1 ⟨n, h⟩) = (((350 + n : ℕ) : ℝ) : EReal) := ow_at V ⟨n, h⟩

/-- The smoothed spectra at a place given by a number. -/
theorem v92_nat (R : Fin 1024) (n : ℕ) (h : n < 2151) : res_main_v92 V (ix2 R ⟨n, h⟩) = sg (row V R) n := v92_at V R ⟨n, h⟩

/-- The value below each point. -/
theorem v103_at (R : Fin 1024) (t : Fin 2151) : res_main_v103 V (ix2 R t) = sg (row V R) (up t.val - 1) := by
  unfold res_main_v103
  rw [gather_col, v92_nat, low_at, low_place]

/-- The value above each point. -/
theorem above_at (R : Fin 1024) (t : Fin 2151) :
    Host.gather gather_S1024x2151_S2151x1_S1024x2151_0_1_n_n_1_1_10241 (res_main_v92 V)
      (broadcastInDim S2151x1 ![0] bcast_S2151_S2151x1_0 (res_main_v100 V)) (ix2 R t) = sg (row V R) (up t.val) := by
  rw [gather_col, v92_nat, up_at, up_place]

/-- The wavelength below each point. -/
theorem v108_at (t : Fin 2151) : res_main_v108 V (ix1 t) = (((350 + (up t.val - 1) : ℕ) : ℝ) : EReal) := by
  unfold res_main_v108
  rw [gather_tab, ow_nat, low_at, low_place]

/-- Successive points differ by one. -/
theorem step_one (u : ℕ) (hu : 0 < u) :
    (((350 + u : ℕ) : ℝ) : EReal) - (((350 + (u - 1) : ℕ) : ℝ) : EReal) = ((1 : ℝ) : EReal) := by
  obtain ⟨w, rfl⟩ : ∃ w, u = w + 1 := ⟨u - 1, by omega⟩
  rw [← EReal.coe_sub]
  congr 1
  rw [Nat.add_sub_cancel]
  push_cast
  ring

/-- The place above a point is not the first. -/
theorem up_pos (t : ℕ) : 0 < up t := by unfold up; omega

/-- The table above point `t`. -/
theorem ow_up (t : Fin 2151) :
    Host.gather gather_S2151_S2151x1_S2151_n_0_n_n_0_1_1 (res_main_cst_2 V)
      (broadcastInDim S2151x1 ![0] bcast_S2151_S2151x1_0 (res_main_v100 V)) (ix1 t)
      = (((350 + up t.val : ℕ) : ℝ) : EReal) := by
  rw [gather_tab, ow_nat, up_at, up_place]

end Cert.RefVal

end
-- ==== Proof.RefMask.lean ====
module

public import proofs.«01_k».proof.Proof.RefVal

@[expose] public section

set_option maxRecDepth 16384

noncomputable section

namespace Cert.RefVal

open Idealize.ShloMosaic Idealize.SL.Sem Cert.ReferenceIdeal Cert.ReferenceIdeal.Gen Cert.ReferenceIdeal.Value Cert.Spec

variable (V : Valuation τ sig (Elt Ideal))

/-- A difference of vectors at an index. -/
theorem sub_at {S : Shape} (a b : FVec Ideal S .f32) (i : S.Idx) : subf a b i = (a i - b i : EReal) := rfl

/-- The step of the resampling is one everywhere. -/
theorem v110_at (t : Fin 2151) : res_main_v110 V (ix1 t) = ((1 : ℝ) : EReal) := by
  unfold res_main_v110
  refine (sub_at _ _ _).trans ?_
  rw [ow_up, v108_at, step_one _ (up_pos _)]

/-- The least step the resampling divides by is below one. -/
theorem least_step : ¬ max ((1 : ℝ) : EReal) (-((1 : ℝ) : EReal)) ≤ Ideal.ofBits .f32 0x28800000#32 := by
  have h : Ideal.ofBits .f32 0x28800000#32 < ((1 : ℝ) : EReal) := by
    simp [Ideal.ofBits, Ideal.ieee]
    rw [← EReal.coe_mul]
    exact_mod_cast (by norm_num : (8388608 : ℝ) * (2 ^ 69)⁻¹ < 1)
  exact fun hc => absurd (lt_of_lt_of_le h (le_trans (le_max_left _ _) hc)) (lt_irrefl _)

/-- A step of one is not taken for zero. -/
theorem step_kept (D : FVec Ideal S2151 .f32) (t : Fin 2151) (h : D (ix1 t) = ((1 : ℝ) : EReal)) :
    cmpf .ole (Host.absf D) (broadcastInDim S2151 ![] bcast_S_S2151 (constant S_ .f32 0x28800000#32)) (ix1 t) = 0#1 := by
  pointwise
  rw [h]
  exact congrArg BitVec.ofBool (decide_eq_false least_step)

/-- No step of the wavelengths is taken for zero. -/
theorem v113_at (t : Fin 2151) : res_main_v113 V (ix1 t) = 0#1 := by
  unfold res_main_v113
  exact step_kept (res_main_v110 V) t (v110_at V t)

/-- The resampled spectra: the points between two neighbours read on the line through them, those past either end at
    the end, and zeros filled in to the last patch. -/
def resample (tw ow wbelow step : FVec Ideal S2151 .f32) (small : IVec S2151 1)
    (s below above : FVec Ideal S1024x2151 .f32) : FVec Ideal S1024x2160 .f32 :=
  pad S1024x2160 ![0, 0] ![0, 9] ![0, 0] (select (broadcastInDim S1024x2151 ![0, 1]
    bcast_S1x2151_S1024x2151_0_1 (broadcastInDim S1x2151 ![1] bcast_S2151_S1x2151_1 (cmpf .ogt tw
    (broadcastInDim S2151 ![] bcast_S_S2151 (shapeCast _ (extractStridedSlice S1 ![2150] ow
    slices_S2151_S1_2150) shapeCasts_S1_S_))))) (broadcastInDim S1024x2151 ![0, 1]
    bcast_S1024x1_S1024x2151_0_1 (extractStridedSlice S1024x1 ![0, 2150] s
    slices_S1024x2151_S1024x1_0_2150)) (select (broadcastInDim S1024x2151 ![0, 1]
    bcast_S1x2151_S1024x2151_0_1 (broadcastInDim S1x2151 ![1] bcast_S2151_S1x2151_1 (cmpf .olt tw
    (broadcastInDim S2151 ![] bcast_S_S2151 (shapeCast _ (extractStridedSlice S1 ![0] ow
    slices_S2151_S1_0) shapeCasts_S1_S_))))) (broadcastInDim S1024x2151 ![0, 1]
    bcast_S1024x1_S1024x2151_0_1 (extractStridedSlice S1024x1 ![0, 0] s slices_S1024x2151_S1024x1_0_0))
    (select (broadcastInDim S1024x2151 ![0, 1] bcast_S1x2151_S1024x2151_0_1 (broadcastInDim S1x2151 ![1]
    bcast_S2151_S1x2151_1 small)) below (addf below (mulf (broadcastInDim S1024x2151 ![0, 1]
    bcast_S1x2151_S1024x2151_0_1 (broadcastInDim S1x2151 ![1] bcast_S2151_S1x2151_1 (Host.divf (subf tw
    wbelow) (select small (broadcastInDim S2151 ![] bcast_S_S2151 (id (constant S_ .f32 0x3F800000#32)))
    step)))) (subf above below)))))) (sitofp .f32 (constantI S_ 32 0#32))
    pads_S1024x2151_S1024x2160_000_090 h_S_

/-- The reference's padded spectra are the resampling of its smoothed ones. -/
theorem v137_eq : res_main_v137 V = resample (res_main_cst_1 V) (res_main_cst_2 V) (res_main_v108 V) (res_main_v110 V)
    (res_main_v113 V) (res_main_v92 V) (res_main_v103 V)
    (Host.gather gather_S1024x2151_S2151x1_S1024x2151_0_1_n_n_1_1_10241 (res_main_v92 V)
      (broadcastInDim S2151x1 ![0] bcast_S2151_S2151x1_0 (res_main_v100 V))) := by
  unfold res_main_v137 resample
  rfl

/-- The resampling at an index, where no point lies past an end and every step is one. -/
theorem resample_at (tw ow wbelow step : FVec Ideal S2151 .f32) (small : IVec S2151 1)
    (s below above : FVec Ideal S1024x2151 .f32) (R : Fin 1024) (t : Fin 2160) (z : EReal)
    (hhi : ∀ t, ¬ (ow (ix1 2150) : EReal) < tw (ix1 t)) (hlo : ∀ t, ¬ (tw (ix1 t) : EReal) < ow (ix1 0))
    (hsmall : ∀ t, small (ix1 t) = 0#1) (hstep : ∀ t, (step (ix1 t) : EReal) = 1)
    (hin : ∀ t' : Fin 2151, t'.val = t.val → (below (ix2 R t') : EReal)
      + Ideal.div (tw (ix1 t') - wbelow (ix1 t')) 1 * (above (ix2 R t') - below (ix2 R t')) = z)
    (hout : 2151 ≤ t.val → z = 0) :
    resample tw ow wbelow step small s below above (ix2 R t) = z := by
  pointwise [resample]
  by_cases h : t.val < 2151
  · rw [dif_pos h, if_neg (hhi _), if_neg (hlo _), hsmall, hstep]
    exact hin ⟨t.val, h⟩ rfl
  · rw [dif_neg h, hout (by omega)]
    simp [FloatOps.sitofp]

/-- Dividing by one changes nothing. -/
theorem div_one' (x : EReal) : Ideal.div x 1 = x := by
  unfold Ideal.div
  rw [if_neg one_ne_zero, inv_one, mul_one]

/-- A point is the last one or has the point above it next. -/
theorem blend (S : Nat → EReal) (hS : ∀ j, IsReal (S j)) (t : Nat) (ht : t < 2151) :
    S (up t - 1) + Ideal.div ((((350 + t : ℕ) : ℝ) : EReal) - (((350 + (up t - 1) : ℕ) : ℝ) : EReal)) 1
      * (S (up t) - S (up t - 1)) = S t := by
  rw [div_one', ← EReal.coe_sub]
  by_cases h : t < 2150
  · have e : up t = t + 1 := by unfold up; omega
    rw [e, Nat.add_sub_cancel, sub_self, EReal.coe_zero, zero_mul, add_zero]
  · obtain rfl : t = 2150 := by omega
    obtain ⟨a, ha⟩ := hS 2150
    obtain ⟨b, hb⟩ := hS 2149
    have e : up 2150 = 2150 := rfl
    rw [e, show 2150 - 1 = 2149 from rfl, ha, hb, ← EReal.coe_sub, ← EReal.coe_mul, ← EReal.coe_add]
    congr 1
    push_cast
    ring

/-- Resampling on the same points keeps a real spectrum, and fills in zeros past its end. -/
theorem v137_at (R : Fin 1024) (hX : ∀ t, IsReal (row V R t)) (t : Fin 2160) :
    res_main_v137 V (ix2 R t) = sg (row V R) t.val := by
  rw [v137_eq]
  refine resample_at _ _ _ _ _ _ _ _ R t _ ?_ ?_ (v113_at V) (fun t => v110_at V t) ?_ (fun h => sg_past _ h)
  · intro t
    rw [tw_at, ow_at]
    rw [coe_nat_lt]
    have := t.isLt
    show ¬ 350 + 2150 < _
    omega
  · intro t
    rw [tw_at, ow_at]
    rw [coe_nat_lt]
    show ¬ _ < 350 + 0
    omega
  · intro t' h
    rw [v103_at, above_at, v108_at, tw_at, ← h]
    exact blend _ (sg_real hX) _ t'.isLt

end Cert.RefVal

end
-- ==== Proof.RefOut.lean ====
module

public import proofs.«01_k».proof.Proof.RefMask
public import proofs.«01_k».proof.Proof.Norm

@[expose] public section

set_option maxRecDepth 16384

noncomputable section

namespace Cert.RefVal

open Idealize.ShloMosaic Idealize.SL.Sem Cert.ReferenceIdeal Cert.ReferenceIdeal.Gen Cert.ReferenceIdeal.Value Cert.Spec

variable (V : Valuation τ sig (Elt Ideal))

/-- Each point less the point before. -/
def firstDiff (A : FVec Ideal S1024x2160 .f32) : FVec Ideal S1024x2159 .f32 :=
  subf (extractStridedSlice S1024x2159 ![0, 1] A slices_S1024x2160_S1024x2159_0_1)
    (extractStridedSlice S1024x2159 ![0, 0] A slices_S1024x2160_S1024x2159_0_0)

/-- The last entry once more. -/
def dup (B : FVec Ideal S1024x2159 .f32) : FVec Ideal S1024x2160 .f32 :=
  concatenate S1024x2160 1
    [⟨S1024x2159, B⟩, ⟨S1024x1, (extractStridedSlice S1024x1 ![0, 2158] B slices_S1024x2159_S1024x1_0_2158)⟩]
    concatenates_S1024x2159_S1024x1_S1024x2160_d1

/-- The difference at a point is the point after less the point itself. -/
theorem firstDiff_at (A : FVec Ideal S1024x2160 .f32) (R : Fin 1024) (t : Fin 2159) :
    firstDiff A (ix2 R t) = (A (ix2 R ⟨1 + t.val, by omega⟩) - A (ix2 R ⟨t.val, by omega⟩) : EReal) := by
  pointwise [firstDiff]

/-- The lengthened differences read the last one twice. -/
theorem dup_at (B : FVec Ideal S1024x2159 .f32) (R : Fin 1024) (t : Fin 2160) :
    dup B (ix2 R t) = (B (ix2 R ⟨min t.val 2158, by omega⟩) : EReal) := by
  pointwise [dup]
  split
  · congr 2
    apply Fin.ext
    show t.val = min t.val 2158
    omega
  · congr 2
    apply Fin.ext
    show _ = min t.val 2158
    simp only
    omega

/-- The differences of a spectrum that ends before the last patch does. -/
theorem dup_firstDiff (A : FVec Ideal S1024x2160 .f32) (S : Nat → EReal) (R : Fin 1024)
    (hA : ∀ t : Fin 2160, A (ix2 R t) = S t.val) (hS : ∀ j, 2151 ≤ j → S j = 0) (t : Fin 2160) :
    dup (firstDiff A) (ix2 R t) = d1 S t.val := by
  rw [dup_at, firstDiff_at, hA, hA]
  unfold d1
  have e : min t.val 2158 = t.val ∨ t.val = 2159 := by omega
  rcases e with e | e
  · simp only [e, add_comm]
  · simp only [e]
    rw [hS _ (by decide), hS _ (by decide), hS _ (by decide), hS _ (by decide)]

/-- The patches under the weights. -/
def linear (A : FVec Ideal S1024x2160 .f32) (W : FVec Ideal S256x16 .f32) (b : FVec Ideal S256 .f32) :
    FVec Ideal S1024x135x256 .f32 :=
  addf (Host.dotGeneral dot_S1024x135x16_S16x256_S1024x135x256_2_0_01_1_n_n none
    (shapeCast _ A shapeCasts_S1024x2160_S1024x135x16)
    (transpose S16x256 [1, 0] W transposes_S256x16_S16x256_1_0))
    (broadcastInDim S1024x135x256 ![0, 1, 2] bcast_S1x1x256_S1024x135x256_0_1_2
      (broadcastInDim S1x1x256 ![2] bcast_S256_S1x1x256_2 b))

/-- The projection at a patch is the sum over its sixteen points, and the bias. -/
theorem linear_at (A : FVec Ideal S1024x2160 .f32) (W : FVec Ideal S256x16 .f32) (b : FVec Ideal S256 .f32)
    (S : Nat → EReal) (R : Fin 1024) (hA : ∀ t : Fin 2160, A (ix2 R t) = S t.val) (p : Fin 135) (d : Fin 256) :
    linear A W b (ix3 R p d) = lin S (fun x => W (ix2 d x)) (b (ix1 d)) p.val := by
  unfold lin
  pointwise [linear]
  refine congrArg (· + _) (Finset.sum_congr rfl fun x _ => ?_)
  rw [hA]

/-- The means of the rows. -/
def means (v : FVec Ideal S1024x135x256 .f32) : FVec Ideal S1024x135x1 .f32 :=
  Host.divf (broadcastInDim S1024x135x1 ![0, 1] bcast_S1024x135_S1024x135x1_0_1
    (Host.reduceAdd v (constant S_ .f32 0x00000000#32) reducesTo_S1024x135x256_S1024x135_d2 h_S_))
    (broadcastInDim S1024x135x1 ![] bcast_S_S1024x135x1 (constant S_ .f32 0x43800000#32))

/-- The rows less their means. -/
def centred (v : FVec Ideal S1024x135x256 .f32) : FVec Ideal S1024x135x256 .f32 :=
  subf v (broadcastInDim S1024x135x256 ![0, 1, 2] bcast_S1024x135x1_S1024x135x256_0_1_2 (means v))

/-- The normalized rows. -/
def layer (v : FVec Ideal S1024x135x256 .f32) (g b : FVec Ideal S256 .f32) : FVec Ideal S1024x135x256 .f32 :=
  addf (mulf (Host.divf (centred v)
    (broadcastInDim S1024x135x256 ![0, 1, 2] bcast_S1024x135x1_S1024x135x256_0_1_2
      (Host.sqrt (addf (means (mulf (centred v) (centred v)))
        (broadcastInDim S1024x135x1 ![] bcast_S_S1024x135x1 (constant S_ .f32 0x3727C5AC#32))))))
    (broadcastInDim S1024x135x256 ![0, 1, 2] bcast_S1x1x256_S1024x135x256_0_1_2
      (broadcastInDim S1x1x256 ![2] bcast_S256_S1x1x256_2 g)))
    (broadcastInDim S1024x135x256 ![0, 1, 2] bcast_S1x1x256_S1024x135x256_0_1_2
      (broadcastInDim S1x1x256 ![2] bcast_S256_S1x1x256_2 b))

/-- A centred row holds each value less the row's mean. -/
theorem centred_at (v : FVec Ideal S1024x135x256 .f32) (R : Fin 1024) (p : Fin 135) (d : Fin 256) :
    centred v (ix3 R p d) = (v (ix3 R p d) - mean (fun x => v (ix3 R p x)) : EReal) := by
  unfold mean
  pointwise [centred, means]

/-- The layer norm at a place is the normalized value of its row. -/
theorem layer_at (v : FVec Ideal S1024x135x256 .f32) (g b : FVec Ideal S256 .f32) (R : Fin 1024) (p : Fin 135) (d : Fin 256) :
    layer v g b (ix3 R p d) = lnorm (fun x => v (ix3 R p x)) (g (ix1 d)) (b (ix1 d)) d := by
  unfold lnorm var mean
  pointwise [layer, centred, means]

/-- The first result as its three normalized groups. -/
def tokens (a b c : FVec Ideal S1024x135x256 .f32) : FVec Ideal S1024x135x768 .f32 :=
  concatenate S1024x135x768 2 [⟨S1024x135x256, a⟩, ⟨S1024x135x256, b⟩, ⟨S1024x135x256, c⟩]
    concatenates_S1024x135x256_S1024x135x256_S1024x135x256_S1024x135x768_d2

/-- The joined groups at a column: each third reads its own group. -/
theorem tokens_at (a b c : FVec Ideal S1024x135x256 .f32) (R : Fin 1024) (p : Fin 135) (k : Fin 768) :
    tokens a b c (ix3 R p k) = (if h : k.val < 256 then a (ix3 R p ⟨k.val, h⟩)
      else if h : k.val - 256 < 256 then b (ix3 R p ⟨k.val - 256, h⟩) else c (ix3 R p ⟨k.val - 256 - 256, by omega⟩) : EReal) := by
  pointwise [tokens]

/-- The second result: whether a patch holds a zero. -/
def holes (A : FVec Ideal S1024x2160 .f32) : IVec S1024x135 1 :=
  Host.reduce IntOp.ori (cmpf .oeq (shapeCast _ A shapeCasts_S1024x2160_S1024x135x16)
    (broadcastInDim S1024x135x16 ![] bcast_S_S1024x135x16 (constant S_ .f32 0x00000000#32)))
    (constantI S_ 1 0#1) reducesTo_S1024x135x16_S1024x135_d2 h_S_

/-- The mask at a patch is the bit of whether the patch holds a zero. -/
theorem holes_at (A : FVec Ideal S1024x2160 .f32) (S : Nat → EReal) (R : Fin 1024)
    (hA : ∀ t : Fin 2160, A (ix2 R t) = S t.val) (p : Fin 135) : holes A (ix2 R p) = hole S p.val := by
  pointwise [holes]
  exact Finset.fold_congr fun x _ =>
    congrArg (fun e : EReal => BitVec.ofBool (decide (e = 0))) (hA ⟨p.val * 16 + x.val, by omega⟩)

/-! ## The results of the reference -/

/-- The first projection is that of the smoothed spectra. -/
theorem v153_eq : res_main_v153 V = linear (res_main_v137 V) (V (Proc.devRef .tc main_arg1)) (V (Proc.devRef .tc main_arg2)) := by
  unfold res_main_v153
  rfl

/-- The second projection is that of the first differences. -/
theorem v183_eq : res_main_v183 V
    = linear (dup (firstDiff (res_main_v137 V))) (V (Proc.devRef .tc main_arg5)) (V (Proc.devRef .tc main_arg6)) := by
  unfold res_main_v183 res_main_v140 res_main_v138
  rfl

/-- The third projection is that of the second differences. -/
theorem v213_eq : res_main_v213 V
    = linear (dup (firstDiff (dup (firstDiff (res_main_v137 V))))) (V (Proc.devRef .tc main_arg9)) (V (Proc.devRef .tc main_arg10)) := by
  unfold res_main_v213 res_main_v141 res_main_v140 res_main_v138
  rfl

/-- The first result. -/
def out0 : FVec Ideal S1024x135x768 .f32 :=
  tokens (layer (res_main_v153 V) (V (Proc.devRef .tc main_arg3)) (V (Proc.devRef .tc main_arg4)))
    (layer (res_main_v183 V) (V (Proc.devRef .tc main_arg7)) (V (Proc.devRef .tc main_arg8)))
    (layer (res_main_v213 V) (V (Proc.devRef .tc main_arg11)) (V (Proc.devRef .tc main_arg12)))

/-- The second result. -/
def out1 : IVec S1024x135 1 := holes (res_main_v137 V)

/-- What the first result holds, column by column. -/
def token (S : Nat → EReal) (W0 W1 W2 : S256x16.Idx → EReal) (b0 g0 s0 b1 g1 s1 b2 g2 s2 : S256.Idx → EReal)
    (p : Nat) (k : Fin 768) : EReal :=
  if h : k.val < 256 then
    lnorm (fun d => lin S (fun x => W0 (ix2 d x)) (b0 (ix1 d)) p) (g0 (ix1 ⟨k.val, h⟩)) (s0 (ix1 ⟨k.val, h⟩)) ⟨k.val, h⟩
  else if h : k.val - 256 < 256 then
    lnorm (fun d => lin (d1 S) (fun x => W1 (ix2 d x)) (b1 (ix1 d)) p) (g1 (ix1 ⟨k.val - 256, h⟩))
      (s1 (ix1 ⟨k.val - 256, h⟩)) ⟨k.val - 256, h⟩
  else
    lnorm (fun d => lin (d2 S) (fun x => W2 (ix2 d x)) (b2 (ix1 d)) p) (g2 (ix1 ⟨k.val - 256 - 256, by omega⟩))
      (s2 (ix1 ⟨k.val - 256 - 256, by omega⟩)) ⟨k.val - 256 - 256, by omega⟩

/-- The first result at an index, for a row of real numbers. -/
theorem out0_at (R : Fin 1024) (hX : ∀ t, IsReal (row V R t)) (p : Fin 135) (k : Fin 768) :
    out0 V (ix3 R p k) = token (sg (row V R)) (V (Proc.devRef .tc main_arg1)) (V (Proc.devRef .tc main_arg5))
      (V (Proc.devRef .tc main_arg9)) (V (Proc.devRef .tc main_arg2)) (V (Proc.devRef .tc main_arg3))
      (V (Proc.devRef .tc main_arg4)) (V (Proc.devRef .tc main_arg6)) (V (Proc.devRef .tc main_arg7))
      (V (Proc.devRef .tc main_arg8)) (V (Proc.devRef .tc main_arg10)) (V (Proc.devRef .tc main_arg11))
      (V (Proc.devRef .tc main_arg12)) p.val k := by
  have h0 := v137_at V R hX
  have hz : ∀ j, 2151 ≤ j → sg (row V R) j = 0 := fun j hj => sg_past _ hj
  have h1 := dup_firstDiff _ _ R h0 hz
  have h2 := dup_firstDiff _ _ R h1 (d1_past hz)
  unfold out0 token
  rw [tokens_at, v153_eq, v183_eq, v213_eq]
  split
  · rw [layer_at]
    exact congrArg (fun v => lnorm v _ _ _) (funext fun d => linear_at _ _ _ _ R h0 p d)
  split
  · rw [layer_at]
    exact congrArg (fun v => lnorm v _ _ _) (funext fun d => linear_at _ _ _ _ R h1 p d)
  · rw [layer_at]
    exact congrArg (fun v => lnorm v _ _ _) (funext fun d => linear_at _ _ _ _ R h2 p d)

/-- The second result at an index, for a row of real numbers. -/
theorem out1_at (R : Fin 1024) (hX : ∀ t, IsReal (row V R t)) (p : Fin 135) :
    out1 V (ix2 R p) = hole (sg (row V R)) p.val := holes_at _ _ R (v137_at V R hX) p

/-- The reference ends with these two results, and leaves its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v238) = out0 (StableHlo.launchContents m c)
      ∧ r.2.mem ((c.tc : Thread nD τ).loc main_v147) = out1 (StableHlo.launchContents m c) :=
  (run m ρ).mono fun _ h c => by
    refine ⟨(h c).1.trans ?_, (h c).2.1.trans ?_⟩
    · generalize StableHlo.launchContents m c = V
      unfold out0 layer centred means tokens res_main_v159 res_main_v189 res_main_v219 res_main_v157 res_main_v187 res_main_v217
      rfl
    · rfl

end Cert.RefVal

end
-- ==== Proof.KVal.lean ====
module

public import proofs.«01_k».proof.Proof.KHost
public import proofs.«01_k».proof.Proof.RefOut
public import Idealize.ShloMosaic.Lib.Pipeline.ValueKit

@[expose] public section

set_option maxRecDepth 16384

noncomputable section

namespace Cert.KVal

open Idealize.ShloMosaic Idealize.ShloMosaic.TcCoe Idealize.SL.Sem Cert.KernelIdeal Cert.KernelIdeal.Gen Cert.Spec Cert.KPay Cert.KHost
open Idealize.ShloMosaic.Pipeline (Dat)

/-! ## What the body leaves in a block -/

/-- The mask block: at a row and a patch, one where the patch holds a zero and zero elsewhere. -/
theorem mask_block (x0 : Vec Ideal S16x2154 .f32) (x1 x2 : Vec Ideal S24x16 .f32) (x3 : Vec Ideal S24x768 .f32)
    (x4 x5 x6 : Vec Ideal S1x768 .f32) (x7 : Vec Ideal S2160x135 .bf16) (X : Fin 2151 → EReal) (r : Fin 16)
    (h0 : ∀ q : Fin 2151, x0 (ix2 r ⟨3 + q.val, by omega⟩) = X q)
    (h1 : ∀ (k : Fin 24) (j : Fin 16), x1 (ix2 k j) = Ideal.ofBits .f32 (KernelIdeal.lit0 ⟨k.val * 16 + j.val, by omega⟩))
    (h2 : ∀ (k : Fin 24) (j : Fin 16), x2 (ix2 k j) = Ideal.ofBits .f32 (KernelIdeal.lit1 ⟨k.val * 16 + j.val, by omega⟩))
    (h7 : ∀ (x : Fin 2160) (p : Fin 135), x7 (ix2 x p) = (if x.val / 16 = p.val then 1 else 0 : EReal))
    (p : Fin 135) :
    out0_9 x0 x1 x2 x3 x4 x5 x6 x7 (ix2 r p) = (if ∃ x : Fin 16, sg X (p.val * 16 + x.val) = 0 then 1 else 0 : EReal) := by
  have e0 : ∀ t, View.ld x0 r0_0 (ix2 r t) = X t := fun t => by
    rw [← h0]
    pointwise
  have e1 : ∀ k : Fin 24, View.ld x0 r0_1 (ix2 r k) = X ⟨k.val, by omega⟩ := fun k => by
    rw [← h0]
    pointwise
  have e3 : ∀ k : Fin 24, View.ld x0 r0_3 (ix2 r k) = X ⟨2127 + k.val, by omega⟩ := fun k => by
    rw [← h0]
    pointwise
    exact congrArg (fun q => x0 (ix2 r q)) (Fin.ext (by simp only; omega))
  unfold_out out0_9
  frame_out
  exact pay7_at _ _ _ _ _ (sg X) r (pay6_at _ _ _ _ _ X r e0 e1 h1 e3 h2) h7 p

/-- The token block: at a patch, a row and a column, the token of the reference's mathematics. -/
theorem token_block (x0 : Vec Ideal S16x2154 .f32) (x1 x2 : Vec Ideal S24x16 .f32) (x3 : Vec Ideal S24x768 .f32)
    (x4 x5 x6 : Vec Ideal S1x768 .f32) (x7 : Vec Ideal S2160x135 .bf16) (X : Fin 2151 → EReal) (r : Fin 16)
    (w0 w1 w2 : FVec Ideal S256x16 .f32) (b0 g0 s0 b1 g1 s1 b2 g2 s2 : FVec Ideal S256 .f32)
    (h0 : ∀ q : Fin 2151, x0 (ix2 r ⟨3 + q.val, by omega⟩) = X q)
    (h1 : ∀ (k : Fin 24) (j : Fin 16), x1 (ix2 k j) = Ideal.ofBits .f32 (KernelIdeal.lit0 ⟨k.val * 16 + j.val, by omega⟩))
    (h2 : ∀ (k : Fin 24) (j : Fin 16), x2 (ix2 k j) = Ideal.ofBits .f32 (KernelIdeal.lit1 ⟨k.val * 16 + j.val, by omega⟩))
    (h3 : x3 = weights w0 w1 w2) (h4 : x4 = joined b0 b1 b2) (h5 : x5 = joined g0 g1 g2) (h6 : x6 = joined s0 s1 s2)
    (hX : ∀ q, IsReal (X q)) (hw0 : ∀ i j, IsReal (w0 (ix2 i j))) (hw1 : ∀ i j, IsReal (w1 (ix2 i j)))
    (hw2 : ∀ i j, IsReal (w2 (ix2 i j))) (hb0 : ∀ i, IsReal (b0 (ix1 i))) (hb1 : ∀ i, IsReal (b1 (ix1 i)))
    (hb2 : ∀ i, IsReal (b2 (ix1 i))) (p : Fin 135) (k : Fin 768) :
    out0_8 x0 x1 x2 x3 x4 x5 x6 x7 (ix3 p r k)
      = RefVal.token (sg X) w0 w1 w2 b0 g0 s0 b1 g1 s1 b2 g2 s2 p.val k := by
  have e0 : ∀ t, View.ld x0 r0_0 (ix2 r t) = X t := fun t => by
    rw [← h0]
    pointwise
  have e1 : ∀ k : Fin 24, View.ld x0 r0_1 (ix2 r k) = X ⟨k.val, by omega⟩ := fun k => by
    rw [← h0]
    pointwise
  have e3 : ∀ k : Fin 24, View.ld x0 r0_3 (ix2 r k) = X ⟨2127 + k.val, by omega⟩ := fun k => by
    rw [← h0]
    pointwise
    exact congrArg (fun q => x0 (ix2 r q)) (Fin.ext (by simp only; omega))
  have hS := pay6_at _ _ _ _ _ X r e0 e1 h1 e3 h2
  unfold_out out0_8
  frame_out
  rw [payload_eq _ _ _ _ _ _ _ _ _ rfl rfl]
  have hM := fun c => prod_at _ _ x3 x4 (sg X) r (fun j => pay8_at _ _ _ _ r j _ (hS j))
    (fun j => (pay9_at _ _ _ _ r j _ (hS j)).trans (KPay.IsReal.sub_self (sg_real hX j.val))) c
    (fun k => h3 ▸ weights_real w0 w1 w2 hw0 hw1 hw2 k c) (h4 ▸ joined_real b0 b1 b2 hb0 hb1 hb2 c) p
  unfold KPay.inner at hM
  refine Eq.trans (normed_at _ x5 x6 p r k) ?_
  subst h3 h4 h5 h6
  rw [joined_at, joined_at]
  unfold RefVal.token
  have hR := fun j => sg_real hX j
  by_cases c1 : k.val < 256
  · simp only [c1, dite_true]
    refine congrArg (fun f => lnorm f _ _ _) (funext fun d => (hM ⟨d.val, by omega⟩).trans ?_)
    simp only [weights_fold, joined_at, Fin.is_lt, dite_true, dite_false, Fin.eta]
    exact sum_fold0 hR (fun x => hw0 d x) _ _
  by_cases c2 : k.val - 256 < 256
  · simp only [c1, c2, dite_true, dite_false]
    refine congrArg (fun f => lnorm f _ _ _) (funext fun d => (hM ⟨256 + d.val, by omega⟩).trans ?_)
    simp only [weights_fold, joined_at, Fin.is_lt, dite_true, dite_false, show ¬ 256 + d.val < 256 by omega, show 256 + d.val - 256 = d.val by omega, Fin.eta]
    exact sum_fold1 hR (fun x => hw1 d x) _ _
  · simp only [c1, c2, dite_false]
    refine congrArg (fun f => lnorm f _ _ _) (funext fun d => (hM ⟨512 + d.val, by omega⟩).trans ?_)
    simp only [weights_fold, joined_at, Fin.is_lt, dite_true, dite_false, show ¬ 512 + d.val < 256 by omega, show ¬ 512 + d.val - 256 < 256 by omega, show 512 + d.val - 256 - 256 = d.val by omega, Fin.eta]
    exact sum_fold2 hR (fun x => hw2 d x) _ _

/-! ## What the region finds -/

variable (m : (ℓ : Loc nD τ sig) → Buf (Elt Ideal) ℓ)

/-- Which block of its array each window takes at a point of the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, t.val, 0] ∧ win0_9.index t = ![t.val, 0] :=
  (by decide +kernel : ∀ t : Fin grid0.N, _)

/-- The block of the spectra at a point holds sixteen rows of them. -/
theorem iblk0 (c : Dev nD) (t : Fin cfg0.N) (r : Fin 16) (q : Fin 2154) (h : t.val * 16 + r.val < 1024) :
    iblk m c 0 t (ix2 r q) = m ((c : Thread nD τ).loc main_arg0) (ix2 ⟨t.val * 16 + r.val, h⟩ q) := by
  blk_ext [iblk, V, idx t]

/-- Window 1 is its whole array at every point. -/
theorem iblk1 (c : Dev nD) (t : Fin cfg0.N) : iblk m c 1 t = V m c main_cst := by
  blk_ext! [iblk, idx t]

/-- Window 2 is its whole array at every point. -/
theorem iblk2 (c : Dev nD) (t : Fin cfg0.N) : iblk m c 2 t = V m c main_cst_0 := by
  blk_ext! [iblk, idx t]

/-- Window 3 is its whole array at every point. -/
theorem iblk3 (c : Dev nD) (t : Fin cfg0.N) : iblk m c 3 t = V m c main_v17 := by
  blk_ext! [iblk, idx t]

/-- Window 4 is its whole array at every point. -/
theorem iblk4 (c : Dev nD) (t : Fin cfg0.N) : iblk m c 4 t = V m c main_v19 := by
  blk_ext! [iblk, idx t]

/-- Window 5 is its whole array at every point. -/
theorem iblk5 (c : Dev nD) (t : Fin cfg0.N) : iblk m c 5 t = V m c main_v21 := by
  blk_ext! [iblk, idx t]

/-- Window 6 is its whole array at every point. -/
theorem iblk6 (c : Dev nD) (t : Fin cfg0.N) : iblk m c 6 t = V m c main_v23 := by
  blk_ext! [iblk, idx t]

/-- Window 7 is its whole array at every point. -/
theorem iblk7 (c : Dev nD) (t : Fin cfg0.N) : iblk m c 7 t = V m c main_v29 := by
  blk_ext! [iblk, idx t]

/-- The front table at a place. -/
theorem front_table (c : Dev nD) (k : Fin 24) (j : Fin 16) :
    V m c main_cst (ix2 k j) = Ideal.ofBits .f32 (KernelIdeal.lit0 ⟨k.val * 16 + j.val, by omega⟩) := by
  rw [V_cst]
  exact congrArg (fun n => Ideal.ofBits .f32 (lit0 n)) (Fin.ext (Shape.rowMajor_val_two _))

/-- The back table at a place. -/
theorem back_table (c : Dev nD) (k : Fin 24) (j : Fin 16) :
    V m c main_cst_0 (ix2 k j) = Ideal.ofBits .f32 (KernelIdeal.lit1 ⟨k.val * 16 + j.val, by omega⟩) := by
  rw [V_cst_0]
  exact congrArg (fun n => Ideal.ofBits .f32 (lit1 n)) (Fin.ext (Shape.rowMajor_val_two _))

/-- The patch table at a place: one where the row lies in the patch. -/
theorem patch_table (c : Dev nD) (x : Fin 2160) (p : Fin 135) :
    V m c main_v29 (ix2 x p) = (if x.val / 16 = p.val then 1 else 0 : EReal) := by
  rw [V_v29]
  exact patches_at x p

/-! ## The arrays after the region -/

/-- A row of the spectra from their fourth point on. -/
def krow (c : Dev nD) (R : Fin 1024) : Fin 2151 → EReal :=
  fun q => m ((c : Thread nD τ).loc main_arg0) (ix2 R ⟨3 + q.val, by omega⟩)

/-- The mask array: one where the patch of the row holds a zero. -/
def masks (c : Dev nD) : Vec Ideal S1024x135 .f32 :=
  fun i => (if ∃ x : Fin 16, sg (krow m c (i 0)) ((i 1).val * 16 + x.val) = 0 then 1 else 0 : EReal)

/-- The token array, patches first. -/
def toks (c : Dev nD) : Vec Ideal S135x1024x768 .f32 :=
  fun i => RefVal.token (sg (krow m c (i 1))) (m ((c : Thread nD τ).loc main_arg1)) (m ((c : Thread nD τ).loc main_arg5))
    (m ((c : Thread nD τ).loc main_arg9)) (m ((c : Thread nD τ).loc main_arg2)) (m ((c : Thread nD τ).loc main_arg3))
    (m ((c : Thread nD τ).loc main_arg4)) (m ((c : Thread nD τ).loc main_arg6)) (m ((c : Thread nD τ).loc main_arg7))
    (m ((c : Thread nD τ).loc main_arg8)) (m ((c : Thread nD τ).loc main_arg10)) (m ((c : Thread nD τ).loc main_arg11))
    (m ((c : Thread nD τ).loc main_arg12)) (i 0).val (i 2)

/-- The mask array after the region. -/
theorem masks_final (c : Dev nD) : (dats m 0 c).arrAt 9 cfg0.N = masks m c := by
  refine (dats m 0 c).arrAt_eq_of_covers 9 _ (by decide +kernel) fun t _ y => ?_
  blk_simp
  rw [after0_9]
  have ht : t.val < 64 := t.isLt
  obtain ⟨r, p, rfl⟩ : ∃ (r : Fin 16) (p : Fin 135), y = ix2 r p := ⟨y 0, y 1, by funext a; match a with | ⟨0, _⟩ => rfl | ⟨1, _⟩ => rfl⟩
  refine (mask_block _ _ _ _ _ _ _ _ (krow m c ⟨t.val * 16 + r.val, by omega⟩) r ?_ ?_ ?_ ?_ p).trans ?_
  · exact fun q => iblk0 m c t r _ _
  · exact fun k j => (congrFun (iblk1 m c t) _).trans (front_table m c k j)
  · exact fun k j => (congrFun (iblk2 m c t) _).trans (back_table m c k j)
  · exact fun x p => (congrFun (iblk7 m c t) _).trans (patch_table m c x p)
  · refine Eq.trans (b := masks m c (ix2 ⟨t.val * 16 + r.val, by omega⟩ p)) rfl ?_
    blk_ext [idx t]

/-- The token array after the region, where the arguments that the body splits are real. -/
theorem toks_final (c : Dev nD)
    (hx : ∀ i j, IsReal (m ((c : Thread nD τ).loc main_arg0) (ix2 i j)))
    (hw0 : ∀ i j, IsReal (m ((c : Thread nD τ).loc main_arg1) (ix2 i j)))
    (hw1 : ∀ i j, IsReal (m ((c : Thread nD τ).loc main_arg5) (ix2 i j)))
    (hw2 : ∀ i j, IsReal (m ((c : Thread nD τ).loc main_arg9) (ix2 i j)))
    (hb0 : ∀ i, IsReal (m ((c : Thread nD τ).loc main_arg2) (ix1 i)))
    (hb1 : ∀ i, IsReal (m ((c : Thread nD τ).loc main_arg6) (ix1 i)))
    (hb2 : ∀ i, IsReal (m ((c : Thread nD τ).loc main_arg10) (ix1 i))) :
    (dats m 0 c).arrAt 8 cfg0.N = toks m c := by
  refine (dats m 0 c).arrAt_eq_of_covers 8 _ (by decide +kernel) fun t _ y => ?_
  blk_simp
  rw [after0_8]
  have ht : t.val < 64 := t.isLt
  obtain ⟨p, r, k, rfl⟩ : ∃ (p : Fin 135) (r : Fin 16) (k : Fin 768), y = ix3 p r k :=
    ⟨y 0, y 1, y 2, by funext a; match a with | ⟨0, _⟩ => rfl | ⟨1, _⟩ => rfl | ⟨2, _⟩ => rfl⟩
  refine (token_block _ _ _ _ _ _ _ _ (krow m c ⟨t.val * 16 + r.val, by omega⟩) r
    (m (c, Proc.devRef .tc main_arg1)) (m (c, Proc.devRef .tc main_arg5)) (m (c, Proc.devRef .tc main_arg9))
    (m (c, Proc.devRef .tc main_arg2)) (m (c, Proc.devRef .tc main_arg3)) (m (c, Proc.devRef .tc main_arg4))
    (m (c, Proc.devRef .tc main_arg6)) (m (c, Proc.devRef .tc main_arg7)) (m (c, Proc.devRef .tc main_arg8))
    (m (c, Proc.devRef .tc main_arg10)) (m (c, Proc.devRef .tc main_arg11)) (m (c, Proc.devRef .tc main_arg12))
    ?_ ?_ ?_ ?_ ?_ ?_ ?_ ?_ hw0 hw1 hw2 hb0 hb1 hb2 p k).trans ?_
  · exact fun q => iblk0 m c t r _ _
  · exact fun k j => (congrFun (iblk1 m c t) _).trans (front_table m c k j)
  · exact fun k j => (congrFun (iblk2 m c t) _).trans (back_table m c k j)
  · exact (iblk3 m c t).trans (V_v17 m c)
  · exact (iblk4 m c t).trans (V_v19 m c)
  · exact (iblk5 m c t).trans (V_v21 m c)
  · exact (iblk6 m c t).trans (V_v23 m c)
  · exact fun q => hx _ _
  · refine Eq.trans (b := toks m c (ix3 p ⟨t.val * 16 + r.val, by omega⟩ k)) rfl ?_
    blk_ext [idx t]

end Cert.KVal

end
-- ==== Proof.KRun.lean ====
module

public import proofs.«01_k».proof.Proof.KVal
public import Idealize.ShloMosaic.Lib.Claim

@[expose] public section

set_option maxRecDepth 16384

noncomputable section

namespace Cert.KRun

open Idealize.ShloMosaic Idealize.ShloMosaic.TcCoe Idealize.SL.Sem Cert.KernelIdeal Cert.KernelIdeal.Gen Cert.Spec Cert.KVal

/-- The first result from the token array: its first two axes exchanged. -/
def turned (A : FVec Ideal S135x1024x768 .f32) : FVec Ideal S1024x135x768 .f32 :=
  transpose S1024x135x768 [1, 0, 2] A transposes_S135x1024x768_S1024x135x768_1_0_2

/-- The second result from the mask array: where it is not zero. -/
def marked (A : FVec Ideal S1024x135 .f32) : IVec S1024x135 1 :=
  cmpf .une A (broadcastInDim S1024x135 ![] bcast_S_S1024x135 (constant S_ .f32 0x00000000#32))

/-- The run of the kernel: its two results from the arrays after the region. -/
theorem kernel_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v31) = turned ((dats m 0 c).arrAt 8 cfg0.N)
      ∧ r.2.mem ((c.tc : Thread nD τ).loc main_v34) = marked ((dats m 0 c).arrAt 9 cfg0.N) := by
  run_from run_main m g
  · unfold Pipeline.afterTail₀
    simp only [List.foldl_cons, List.foldl_nil, List.flatten_cons, List.flatten_nil, List.append_nil, hostOps1]
    after_region_results
    exact congrArg turned (Pipeline.withArrays_arr _ launch0.win.arr_inj c (V0 m c) (fun w => (dats m 0 c).arrAt w (cfgs 0).N) 8)
  · unfold Pipeline.afterTail₀
    simp only [List.foldl_cons, List.foldl_nil, List.flatten_cons, List.flatten_nil, List.append_nil, hostOps1]
    after_region_results
    exact congrArg marked (Pipeline.withArrays_arr _ launch0.win.arr_inj c (V0 m c) (fun w => (dats m 0 c).arrAt w (cfgs 0).N) 9)

/-- The first result at an index. -/
theorem turned_at (A : FVec Ideal S135x1024x768 .f32) (R : Fin 1024) (p : Fin 135) (k : Fin 768) :
    turned A (ix3 R p k) = A (ix3 p R k) := by
  pointwise [turned]

/-- The second result at an index, of an array of ones and zeros. -/
theorem marked_at (A : FVec Ideal S1024x135 .f32) (R : Fin 1024) (p : Fin 135) (P : Prop) [Decidable P]
    (h : A (ix2 R p) = (if P then 1 else 0 : EReal)) : marked A (ix2 R p) = if P then 1#1 else 0#1 := by
  pointwise [marked]
  rw [h]
  by_cases hP : P
  · simp [hP]
  · simp [hP]

/-- The first result of the kernel is that of the reference, on arguments that agree and are real. -/
theorem tokens_agree (m : (ℓ : Loc nD τ sig) → Buf (Elt Ideal) ℓ) (c : Dev nD)
    (V : Valuation ReferenceIdeal.τ ReferenceIdeal.sig (Elt Ideal))
    (e0 : V (Proc.devRef .tc ReferenceIdeal.main_arg0) = m ((c.tc : Thread nD τ).loc main_arg0))
    (e1 : V (Proc.devRef .tc ReferenceIdeal.main_arg1) = m ((c.tc : Thread nD τ).loc main_arg1))
    (e2 : V (Proc.devRef .tc ReferenceIdeal.main_arg2) = m ((c.tc : Thread nD τ).loc main_arg2))
    (e3 : V (Proc.devRef .tc ReferenceIdeal.main_arg3) = m ((c.tc : Thread nD τ).loc main_arg3))
    (e4 : V (Proc.devRef .tc ReferenceIdeal.main_arg4) = m ((c.tc : Thread nD τ).loc main_arg4))
    (e5 : V (Proc.devRef .tc ReferenceIdeal.main_arg5) = m ((c.tc : Thread nD τ).loc main_arg5))
    (e6 : V (Proc.devRef .tc ReferenceIdeal.main_arg6) = m ((c.tc : Thread nD τ).loc main_arg6))
    (e7 : V (Proc.devRef .tc ReferenceIdeal.main_arg7) = m ((c.tc : Thread nD τ).loc main_arg7))
    (e8 : V (Proc.devRef .tc ReferenceIdeal.main_arg8) = m ((c.tc : Thread nD τ).loc main_arg8))
    (e9 : V (Proc.devRef .tc ReferenceIdeal.main_arg9) = m ((c.tc : Thread nD τ).loc main_arg9))
    (e10 : V (Proc.devRef .tc ReferenceIdeal.main_arg10) = m ((c.tc : Thread nD τ).loc main_arg10))
    (e11 : V (Proc.devRef .tc ReferenceIdeal.main_arg11) = m ((c.tc : Thread nD τ).loc main_arg11))
    (e12 : V (Proc.devRef .tc ReferenceIdeal.main_arg12) = m ((c.tc : Thread nD τ).loc main_arg12))
    (hx : ∀ i j, IsReal (m ((c.tc : Thread nD τ).loc main_arg0) (ix2 i j))) :
    RefVal.out0 V = turned (toks m c) := by
  funext i
  obtain ⟨R, p, k, rfl⟩ : ∃ (R : Fin 1024) (p : Fin 135) (k : Fin 768), i = ix3 R p k :=
    ⟨i 0, i 1, i 2, by funext a; match a with | ⟨0, _⟩ => rfl | ⟨1, _⟩ => rfl | ⟨2, _⟩ => rfl⟩
  have er : RefVal.row V R = krow m c R := by
    unfold RefVal.row
    rw [e0]
    rfl
  refine (RefVal.out0_at V R (fun t => er ▸ hx _ _) p k).trans (Eq.trans ?_ (turned_at _ R p k).symm)
  rw [er, e1, e2, e3, e4, e5, e6, e7, e8, e9, e10, e11, e12]
  rfl

/-- The second result of the kernel is that of the reference, on arguments that agree and are real. -/
theorem holes_agree (m : (ℓ : Loc nD τ sig) → Buf (Elt Ideal) ℓ) (c : Dev nD)
    (V : Valuation ReferenceIdeal.τ ReferenceIdeal.sig (Elt Ideal))
    (e0 : V (Proc.devRef .tc ReferenceIdeal.main_arg0) = m ((c.tc : Thread nD τ).loc main_arg0))
    (hx : ∀ i j, IsReal (m ((c.tc : Thread nD τ).loc main_arg0) (ix2 i j))) :
    RefVal.out1 V = marked (masks m c) := by
  funext i
  obtain ⟨R, p, rfl⟩ : ∃ (R : Fin 1024) (p : Fin 135), i = ix2 R p :=
    ⟨i 0, i 1, by funext a; match a with | ⟨0, _⟩ => rfl | ⟨1, _⟩ => rfl⟩
  have er : RefVal.row V R = krow m c R := by
    unfold RefVal.row
    rw [e0]
    rfl
  refine (RefVal.out1_at V R (fun t => er ▸ hx _ _) p).trans ?_
  rw [er, hole_eq]
  exact (marked_at (masks m c) R p _ rfl).symm

end Cert.KRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.KRun
public import Idealize.ShloMosaic.Lib.Claim
public import Idealize.ShloMosaic.Adequacy
public import Idealize.ShloMosaic.Init

@[expose] public section

noncomputable section

namespace Cert.Proof

open Idealize.ShloMosaic Idealize.SL.Sem

/-- The reference runs, leaves its arguments, and its counters end at zero: it declares none. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩) (Cert.ReferenceIdeal.Value.run m g)

/-- The two programs end with equal results, where the precondition holds. -/
theorem results_agree : Cert.algebraic_KernelIdeal_ReferenceIdeal_pre_finite_inputs
    (hKernelIdeal := Cert.KernelIdeal.Gen.facts) (hReferenceIdeal := Cert.ReferenceIdeal.Gen.facts)
    (hPre_finite_inputs := Cert.Pre.facts) := by
  intro m g m' g' hpre hagree
  letI := Cert.Pre.facts
  have hfin := fun c => Cert.Pre.finite_inputs (h := hpre c)
  refine ⟨fun c => Cert.KRun.turned (Cert.KVal.toks m c), fun c => Cert.KRun.marked (Cert.KVal.masks m c), ?_, ?_⟩
  · refine (θ_run Cert.KernelIdeal.defs _ _).mono (fun r h c => ?_)
      (θ_run_and (Cert.KRun.kernel_run m g) (Cert.KernelIdeal.Gen.unchanged m g))
    obtain ⟨hx, hw0, hw1, hw2, hb0, hb1, hb2⟩ := hfin c
    exact ⟨(h.1 c).1.trans (congrArg Cert.KRun.turned (Cert.KVal.toks_final m c hx hw0 hw1 hw2 hb0 hb1 hb2)),
      (h.1 c).2.trans (congrArg Cert.KRun.marked (Cert.KVal.masks_final m c)), h.2 c⟩
  · refine (θ_run Cert.ReferenceIdeal.defs _ _).mono (fun r h c => ?_)
      (θ_run_and (Cert.RefVal.reference_run m' g') (Cert.ReferenceIdeal.Value.run m' g'))
    obtain ⟨e0, e1, e2, e3, e4, e5, e6, e7, e8, e9, e10, e11, e12⟩ := hagree c
    exact ⟨(h.1 c).1.trans (Cert.KRun.tokens_agree m c _ e0 e1 e2 e3 e4 e5 e6 e7 e8 e9 e10 e11 e12 (hfin c).1),
      (h.1 c).2.trans (Cert.KRun.holes_agree m c _ e0 (hfin c).1), (h.2 c).2.2⟩

/-- Everything the certificate claims. -/
theorem claim : Cert.Claim :=
  ⟨Cert.Kernel.Gen.facts, Cert.KernelIdeal.Gen.facts, Cert.ReferenceIdeal.Gen.facts, Cert.Pre.facts,
    fun m g _ => Cert.Kernel.Gen.frame m g, fun m g _ => Cert.KernelIdeal.Gen.frame m g,
    fun m g _ => Cert.KernelIdeal.Gen.frame m g, reference_frame, fun m g _ => reference_frame m g trivial,
    trivial, results_agree⟩

end Cert.Proof

end
